-- ==== Defs.lean ====
def Pre_Kernel [hPre_pages_in_cache : Cert.Pre_pages_in_cache.Facts] (m : (ℓ : Loc Cert.Kernel.nD Cert.Kernel.τ Cert.Kernel.sig) → Buf (Elt Bits) ℓ) : Prop :=
  ∀ c : Dev Cert.Kernel.nD,
    (Cert.Pre_pages_in_cache.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_pages_in_cache : Cert.Pre_pages_in_cache.Facts] (m : (ℓ : Loc Cert.KernelIdeal.nD Cert.KernelIdeal.τ Cert.KernelIdeal.sig) → Buf (Elt Ideal) ℓ) : Prop :=
  ∀ c : Dev Cert.KernelIdeal.nD,
    (Cert.Pre_pages_in_cache.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_positive_sums [hPre_positive_sums : Cert.Pre_positive_sums.Facts] (m : (ℓ : Loc Cert.KernelIdeal.nD Cert.KernelIdeal.τ Cert.KernelIdeal.sig) → Buf (Elt Ideal) ℓ) : Prop :=
  ∀ c : Dev Cert.KernelIdeal.nD,
    (Cert.Pre_positive_sums.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_sums [hPre_positive_sums : Cert.Pre_positive_sums.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_sums.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_scores [hPre_finite_scores : Cert.Pre_finite_scores.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_scores.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_scores [hPre_finite_scores : Cert.Pre_finite_scores.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_scores.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] [hPre_pages_in_cache : Cert.Pre_pages_in_cache.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_pages_in_cache : Cert.Pre_pages_in_cache.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive_sums [hKernelIdeal : Cert.KernelIdeal.Facts] [hPre_positive_sums : Cert.Pre_positive_sums.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_sums m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive_sums [hReferenceIdeal : Cert.ReferenceIdeal.Facts] [hPre_positive_sums : Cert.Pre_positive_sums.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_sums m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite_scores [hKernel3Ideal : Cert.Kernel3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_scores m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite_scores [hReference3Ideal : Cert.Reference3Ideal.Facts] [hPre_finite_scores : Cert.Pre_finite_scores.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_scores m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal_pre_positive_sums [hKernelIdeal : Cert.KernelIdeal.Facts] [hReferenceIdeal : Cert.ReferenceIdeal.Facts] [hPre_positive_sums : Cert.Pre_positive_sums.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_sums m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite_scores [hKernel3Ideal : Cert.Kernel3Ideal.Facts] [hReference3Ideal : Cert.Reference3Ideal.Facts] [hPre_finite_scores : Cert.Pre_finite_scores.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_scores m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v34) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v25_1)) (v1 : (c : Dev Cert.Kernel6Ideal.nD) → Buf (Elt Ideal) ((c.tc : Thread Cert.Kernel6Ideal.nD Cert.Kernel6Ideal.τ).loc Cert.Kernel6Ideal.main_v25_2)) (v2 : (c : Dev Cert.Kernel6Ideal.nD) → Buf (Elt Ideal) ((c.tc : Thread Cert.Kernel6Ideal.nD Cert.Kernel6Ideal.τ).loc Cert.Kernel6Ideal.main_v25_3)) (v3 : (c : Dev Cert.Kernel6Ideal.nD) → Buf (Elt Ideal) ((c.tc : Thread Cert.Kernel6Ideal.nD Cert.Kernel6Ideal.τ).loc Cert.Kernel6Ideal.main_v25_4)) (v4 : (c : Dev Cert.Kernel6Ideal.nD) → Buf (Elt Ideal) ((c.tc : Thread Cert.Kernel6Ideal.nD Cert.Kernel6Ideal.τ).loc Cert.Kernel6Ideal.main_v25_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_1) = v0 c
          ∧ r.2.mem ((c.tc : Thread Cert.Kernel6Ideal.nD Cert.Kernel6Ideal.τ).loc Cert.Kernel6Ideal.main_v25_2) = v1 c
          ∧ r.2.mem ((c.tc : Thread Cert.Kernel6Ideal.nD Cert.Kernel6Ideal.τ).loc Cert.Kernel6Ideal.main_v25_3) = v2 c
          ∧ r.2.mem ((c.tc : Thread Cert.Kernel6Ideal.nD Cert.Kernel6Ideal.τ).loc Cert.Kernel6Ideal.main_v25_4) = v3 c
          ∧ r.2.mem ((c.tc : Thread Cert.Kernel6Ideal.nD Cert.Kernel6Ideal.τ).loc Cert.Kernel6Ideal.main_v25_5) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v10) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_v14) = v3 c
          ∧ r.2.mem ((c.tc : Thread Cert.Reference6Ideal.nD Cert.Reference6Ideal.τ).loc Cert.Reference6Ideal.main_v15) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_pages_in_cache : Cert.Pre_pages_in_cache.Facts) (hPre_positive_sums : Cert.Pre_positive_sums.Facts) (hPre_finite_scores : Cert.Pre_finite_scores.Facts),
    quiescent_Kernel (hKernel := hKernel) (hPre_pages_in_cache := hPre_pages_in_cache)
    ∧ quiescent_KernelIdeal (hKernelIdeal := hKernelIdeal) (hPre_pages_in_cache := hPre_pages_in_cache)
    ∧ quiescent_KernelIdeal_pre_positive_sums (hKernelIdeal := hKernelIdeal) (hPre_positive_sums := hPre_positive_sums)
    ∧ quiescent_ReferenceIdeal (hReferenceIdeal := hReferenceIdeal)
    ∧ quiescent_ReferenceIdeal_pre_positive_sums (hReferenceIdeal := hReferenceIdeal) (hPre_positive_sums := hPre_positive_sums)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_scores (hKernel3Ideal := hKernel3Ideal) (hPre_finite_scores := hPre_finite_scores)
    ∧ quiescent_Reference3Ideal (hReference3Ideal := hReference3Ideal)
    ∧ quiescent_Reference3Ideal_pre_finite_scores (hReference3Ideal := hReference3Ideal) (hPre_finite_scores := hPre_finite_scores)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_positive_sums (hKernelIdeal := hKernelIdeal) (hReferenceIdeal := hReferenceIdeal) (hPre_positive_sums := hPre_positive_sums)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_scores (hKernel3Ideal := hKernel3Ideal) (hReference3Ideal := hReference3Ideal) (hPre_finite_scores := hPre_finite_scores)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S32768x1024 : Shape := ⟨2, ![32768, 1024]⟩
abbrev S4x2048x1024 : Shape := ⟨3, ![4, 2048, 1024]⟩
abbrev S16x2048x1024 : Shape := ⟨3, ![16, 2048, 1024]⟩
abbrev S_ : Shape := ⟨0, ![]⟩
abbrev S1x2048x1024 : Shape := ⟨3, ![1, 2048, 1024]⟩
abbrev S2048x1024 : Shape := ⟨2, ![2048, 1024]⟩

class Facts : Prop where
  shapeCasts_S32768x1024_S16x2048x1024 : S32768x1024.ShapeCasts S16x2048x1024
  bcast_S_S16x2048x1024 : S_.BroadcastsInDim S16x2048x1024 (![] : Fin 0 → Fin S16x2048x1024.rank)
  slices_S4x2048x1024_S1x2048x1024_0_0_0 : S4x2048x1024.Slices ![0, 0, 0] S1x2048x1024
  shapeCasts_S1x2048x1024_S2048x1024 : S1x2048x1024.ShapeCasts S2048x1024
  bcast_S_S2048x1024 : S_.BroadcastsInDim S2048x1024 (![] : Fin 0 → Fin S2048x1024.rank)
  bcast_S2048x1024_S1x2048x1024_1_2 : S2048x1024.BroadcastsInDim S1x2048x1024 (![1, 2] : Fin 2 → Fin S1x2048x1024.rank)
  bcast_S1x2048x1024_S16x2048x1024_0_1_2 : S1x2048x1024.BroadcastsInDim S16x2048x1024 (![0, 1, 2] : Fin 3 → Fin S16x2048x1024.rank)

variable [Facts]

def fn {F : FTy → Type} [FloatOps F] (main_arg0 : FVec F S32768x1024 .bf16) (main_arg1 : FVec F S4x2048x1024 .f32) : IVec S16x2048x1024 1 :=
  let main_v0 : FVec F S32768x1024 .bf16 := Host.absf main_arg0
  let main_v1 : FVec F S16x2048x1024 .bf16 := shapeCast S16x2048x1024 main_v0 shapeCasts_S32768x1024_S16x2048x1024
  let main_cst : FVec F S_ .bf16 := constant S_ .bf16 0x7F80#16
  let main_v2 : FVec F S16x2048x1024 .bf16 := broadcastInDim S16x2048x1024 ![] bcast_S_S16x2048x1024 main_cst
  let main_v3 : IVec S16x2048x1024 1 := cmpf .olt main_v1 main_v2
  let main_v4 : FVec F S1x2048x1024 .f32 := (extractStridedSlice S1x2048x1024 ![0, 0, 0] · slices_S4x2048x1024_S1x2048x1024_0_0_0) main_arg1
  let main_v5 : FVec F S2048x1024 .f32 := shapeCast S2048x1024 main_v4 shapeCasts_S1x2048x1024_S2048x1024
  let main_v6 : FVec F S2048x1024 .f32 := Host.absf main_v5
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_v9 : IVec S1x2048x1024 1 := broadcastInDim S1x2048x1024 ![1, 2] bcast_S2048x1024_S1x2048x1024_1_2 main_v8
  let main_v10 : IVec S16x2048x1024 1 := broadcastInDim S16x2048x1024 ![0, 1, 2] bcast_S1x2048x1024_S16x2048x1024_0_1_2 main_v9
  let main_v11 : IVec S16x2048x1024 1 := andi main_v3 main_v10
  main_v11
-- ==== Pre_pages_in_cache.lean ====
abbrev S32x128 : Shape := ⟨2, ![32, 128]⟩
abbrev S32x128x64x128 : Shape := ⟨4, ![32, 128, 64, 128]⟩
abbrev S32x64x128 : Shape := ⟨3, ![32, 64, 128]⟩
abbrev S256x512 : Shape := ⟨2, ![256, 512]⟩
abbrev S2x5120x128x8x64 : Shape := ⟨5, ![2, 5120, 128, 8, 64]⟩
abbrev S_ : Shape := ⟨0, ![]⟩

class Facts : Prop where
  bcast_S_S32x128 : S_.BroadcastsInDim S32x128 (![] : Fin 0 → Fin S32x128.rank)

variable [Facts]

def fn {F : FTy → Type} [FloatOps F] (main_arg0 : IVec S32x128 32) (main_arg1 : FVec F S32x128x64x128 .bf16) (main_arg2 : FVec F S32x64x128 .bf16) (main_arg3 : FVec F S32x64x128 .f32) (main_arg4 : FVec F S256x512 .f32) (main_arg5 : FVec F S2x5120x128x8x64 .f32) : IVec S32x128 1 :=
  let main_c : IVec S_ 32 := constantI S_ 32 0#32
  let main_v0 : IVec S32x128 32 := broadcastInDim S32x128 ![] bcast_S_S32x128 main_c
  let main_v1 : IVec S32x128 1 := cmpi .sge main_arg0 main_v0
  let main_c_0 : IVec S_ 32 := constantI S_ 32 5120#32
  let main_v2 : IVec S32x128 32 := broadcastInDim S32x128 ![] bcast_S_S32x128 main_c_0
  let main_v3 : IVec S32x128 1 := cmpi .slt main_arg0 main_v2
  let main_v4 : IVec S32x128 1 := andi main_v1 main_v3
  main_v4
-- ==== Pre_positive_sums.lean ====
abbrev S32x128 : Shape := ⟨2, ![32, 128]⟩
abbrev S32x128x64x128 : Shape := ⟨4, ![32, 128, 64, 128]⟩
abbrev S32x64x128 : Shape := ⟨3, ![32, 64, 128]⟩
abbrev S256x512 : Shape := ⟨2, ![256, 512]⟩
abbrev S2x5120x128x8x64 : Shape := ⟨5, ![2, 5120, 128, 8, 64]⟩
abbrev S_ : Shape := ⟨0, ![]⟩
abbrev S32x1x128 : Shape := ⟨3, ![32, 1, 128]⟩
abbrev S32x64x1 : Shape := ⟨3, ![32, 64, 1]⟩

class Facts : Prop where
  bcast_S_S32x128 : S_.BroadcastsInDim S32x128 (![] : Fin 0 → Fin S32x128.rank)
  bcast_S32x128_S32x1x128_0_2 : S32x128.BroadcastsInDim S32x1x128 (![0, 2] : Fin 2 → Fin S32x1x128.rank)
  slices_S32x64x128_S32x64x1_0_0_0 : S32x64x128.Slices ![0, 0, 0] S32x64x1
  bcast_S_S32x64x1 : S_.BroadcastsInDim S32x64x1 (![] : Fin 0 → Fin S32x64x1.rank)
  bcast_S32x1x128_S32x64x128_0_1_2 : S32x1x128.BroadcastsInDim S32x64x128 (![0, 1, 2] : Fin 3 → Fin S32x64x128.rank)
  bcast_S32x64x1_S32x64x128_0_1_2 : S32x64x1.BroadcastsInDim S32x64x128 (![0, 1, 2] : Fin 3 → Fin S32x64x128.rank)

variable [Facts]

def fn {F : FTy → Type} [FloatOps F] (main_arg0 : IVec S32x128 32) (main_arg1 : FVec F S32x128x64x128 .bf16) (main_arg2 : FVec F S32x64x128 .bf16) (main_arg3 : FVec F S32x64x128 .f32) (main_arg4 : FVec F S256x512 .f32) (main_arg5 : FVec F S2x5120x128x8x64 .f32) : IVec S32x64x128 1 :=
  let main_c : IVec S_ 32 := constantI S_ 32 0#32
  let main_v0 : IVec S32x128 32 := broadcastInDim S32x128 ![] bcast_S_S32x128 main_c
  let main_v1 : IVec S32x128 1 := cmpi .sge main_arg0 main_v0
  let main_c_0 : IVec S_ 32 := constantI S_ 32 5120#32
  let main_v2 : IVec S32x128 32 := broadcastInDim S32x128 ![] bcast_S_S32x128 main_c_0
  let main_v3 : IVec S32x128 1 := cmpi .slt main_arg0 main_v2
  let main_v4 : IVec S32x128 1 := andi main_v1 main_v3
  let main_v5 : IVec S32x1x128 1 := broadcastInDim S32x1x128 ![0, 2] bcast_S32x128_S32x1x128_0_2 main_v4
  let main_v6 : FVec F S32x64x1 .f32 := (extractStridedSlice S32x64x1 ![0, 0, 0] · slices_S32x64x128_S32x64x1_0_0_0) main_arg3
  let main_cst : FVec F S_ .f32 := constant S_ .f32 0x00000000#32
  let main_v7 : FVec F S32x64x1 .f32 := broadcastInDim S32x64x1 ![] bcast_S_S32x64x1 main_cst
  let main_v8 : IVec S32x64x1 1 := cmpf .ogt main_v6 main_v7
  let main_v9 : IVec S32x64x128 1 := broadcastInDim S32x64x128 ![0, 1, 2] bcast_S32x1x128_S32x64x128_0_1_2 main_v5
  let main_v10 : IVec S32x64x128 1 := broadcastInDim S32x64x128 ![0, 1, 2] bcast_S32x64x1_S32x64x128_0_1_2 main_v8
  let main_v11 : IVec S32x64x128 1 := andi main_v9 main_v10
  main_v11
-- ==== Kernel.lean ====
abbrev S32x128 : Shape := ⟨2, ![32, 128]⟩
abbrev S32x128x64x128 : Shape := ⟨4, ![32, 128, 64, 128]⟩
abbrev S32x64x128 : Shape := ⟨3, ![32, 64, 128]⟩
abbrev S256x512 : Shape := ⟨2, ![256, 512]⟩
abbrev S2x5120x128x8x64 : Shape := ⟨5, ![2, 5120, 128, 8, 64]⟩
abbrev S2x5120x8x64x128 : Shape := ⟨5, ![2, 5120, 8, 64, 128]⟩
abbrev S10240x512x128 : Shape := ⟨3, ![10240, 512, 128]⟩
abbrev S1x32x64x128 : Shape := ⟨4, ![1, 32, 64, 128]⟩
abbrev S1x64x128 : Shape := ⟨3, ![1, 64, 128]⟩
abbrev S8x512 : Shape := ⟨2, ![8, 512]⟩
abbrev S1x512x128 : Shape := ⟨3, ![1, 512, 128]⟩
abbrev S1x1 : Shape := ⟨2, ![1, 1]⟩
abbrev S64x512 : Shape := ⟨2, ![64, 512]⟩
abbrev S120x512 : Shape := ⟨2, ![120, 512]⟩
abbrev S128x512 : Shape := ⟨2, ![128, 512]⟩
abbrev S64x128 : Shape := ⟨2, ![64, 128]⟩
abbrev S1x1x64x128 : Shape := ⟨4, ![1, 1, 64, 128]⟩
abbrev S512x128 : Shape := ⟨2, ![512, 128]⟩
abbrev S1x64x1 : Shape := ⟨3, ![1, 64, 1]⟩
abbrev S64x1 : Shape := ⟨2, ![64, 1]⟩

abbrev nBuf : Space → Nat
  | .hbm => 8
  | .vmem => 75
  | .smem => 1
  | _ => 0

abbrev bufTy : (tb : Table) → Fin (tcTables nBuf tb) → BufTy
  | .hbm, ⟨0, _⟩ => ⟨S32x128x64x128, .bf16⟩
  | .hbm, ⟨1, _⟩ => ⟨S32x64x128, .bf16⟩
  | .hbm, ⟨2, _⟩ => ⟨S32x64x128, .f32⟩
  | .hbm, ⟨3, _⟩ => ⟨S256x512, .f32⟩
  | .hbm, ⟨4, _⟩ => ⟨S2x5120x128x8x64, .f32⟩
  | .hbm, ⟨5, _⟩ => ⟨S2x5120x8x64x128, .f32⟩
  | .hbm, ⟨6, _⟩ => ⟨S10240x512x128, .f32⟩
  | .hbm, ⟨7, _⟩ => ⟨S256x512, .f32⟩
  | .local _ .vmem, ⟨0, _⟩ => ⟨S1x32x64x128, .bf16⟩
  | .local _ .vmem, ⟨1, _⟩ => ⟨S1x32x64x128, .bf16⟩
  | .local _ .vmem, ⟨2, _⟩ => ⟨S1x64x128, .bf16⟩
  | .local _ .vmem, ⟨3, _⟩ => ⟨S1x64x128, .bf16⟩
  | .local _ .vmem, ⟨4, _⟩ => ⟨S1x64x128, .f32⟩
  | .local _ .vmem, ⟨5, _⟩ => ⟨S1x64x128, .f32⟩
  | .local _ .vmem, ⟨6, _⟩ => ⟨S8x512, .f32⟩
  | .local _ .vmem, ⟨7, _⟩ => ⟨S8x512, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S1x512x128, .f32⟩
  | .local _ .vmem, ⟨23, _⟩ => ⟨S1x512x128, .f32⟩
  | .local _ .vmem, ⟨24, _⟩ => ⟨S1x512x128, .f32⟩
  | .local _ .vmem, ⟨25, _⟩ => ⟨S1x512x128, .f32⟩
  | .local _ .vmem, ⟨26, _⟩ => ⟨S1x512x128, .f32⟩
  | .local _ .vmem, ⟨27, _⟩ => ⟨S1x512x128, .f32⟩
  | .local _ .vmem, ⟨28, _⟩ => ⟨S1x512x128, .f32⟩
  | .local _ .vmem, ⟨29, _⟩ => ⟨S1x512x128, .f32⟩
  | .local _ .vmem, ⟨30, _⟩ => ⟨S1x512x128, .f32⟩
  | .local _ .vmem, ⟨31, _⟩ => ⟨S1x512x128, .f32⟩
  | .local _ .vmem, ⟨32, _⟩ => ⟨S1x512x128, .f32⟩
  | .local _ .vmem, ⟨33, _⟩ => ⟨S1x512x128, .f32⟩
  | .local _ .vmem, ⟨34, _⟩ => ⟨S1x512x128, .f32⟩
  | .local _ .vmem, ⟨35, _⟩ => ⟨S1x512x128, .f32⟩
  | .local _ .vmem, ⟨36, _⟩ => ⟨S1x512x128, .f32⟩
  | .local _ .vmem, ⟨37, _⟩ => ⟨S1x512x128, .f32⟩
  | .local _ .vmem, ⟨38, _⟩ => ⟨S1x512x128, .f32⟩
  | .local _ .vmem, ⟨39, _⟩ => ⟨S1x512x128, .f32⟩
  | .local _ .vmem, ⟨40, _⟩ => ⟨S1x512x128, .f32⟩
  | .local _ .vmem, ⟨41, _⟩ => ⟨S1x512x128, .f32⟩
  | .local _ .vmem, ⟨42, _⟩ => ⟨S1x512x128, .f32⟩
  | .local _ .vmem, ⟨43, _⟩ => ⟨S1x512x128, .f32⟩
  | .local _ .vmem, ⟨44, _⟩ => ⟨S1x512x128, .f32⟩
  | .local _ .vmem, ⟨45, _⟩ => ⟨S1x512x128, .f32⟩
  | .local _ .vmem, ⟨46, _⟩ => ⟨S1x512x128, .f32⟩
  | .local _ .vmem, ⟨47, _⟩ => ⟨S1x512x128, .f32⟩
  | .local _ .vmem, ⟨48, _⟩ => ⟨S1x512x128, .f32⟩
  | .local _ .vmem, ⟨49, _⟩ => ⟨S1x512x128, .f32⟩
  | .local _ .vmem, ⟨50, _⟩ => ⟨S1x512x128, .f32⟩
  | .local _ .vmem, ⟨51, _⟩ => ⟨S1x512x128, .f32⟩
  | .local _ .vmem, ⟨52, _⟩ => ⟨S1x512x128, .f32⟩
  | .local _ .vmem, ⟨53, _⟩ => ⟨S1x512x128, .f32⟩
  | .local _ .vmem, ⟨54, _⟩ => ⟨S1x512x128, .f32⟩
  | .local _ .vmem, ⟨55, _⟩ => ⟨S1x512x128, .f32⟩
  | .local _ .vmem, ⟨56, _⟩ => ⟨S1x512x128, .f32⟩
  | .local _ .vmem, ⟨57, _⟩ => ⟨S1x512x128, .f32⟩
  | .local _ .vmem, ⟨58, _⟩ => ⟨S1x512x128, .f32⟩
  | .local _ .vmem, ⟨59, _⟩ => ⟨S1x512x128, .f32⟩
  | .local _ .vmem, ⟨60, _⟩ => ⟨S1x512x128, .f32⟩
  | .local _ .vmem, ⟨61, _⟩ => ⟨S1x512x128, .f32⟩
  | .local _ .vmem, ⟨62, _⟩ => ⟨S1x512x128, .f32⟩
  | .local _ .vmem, ⟨63, _⟩ => ⟨S1x512x128, .f32⟩
  | .local _ .vmem, ⟨64, _⟩ => ⟨S1x512x128, .f32⟩
  | .local _ .vmem, ⟨65, _⟩ => ⟨S1x512x128, .f32⟩
  | .local _ .vmem, ⟨66, _⟩ => ⟨S1x512x128, .f32⟩
  | .local _ .vmem, ⟨67, _⟩ => ⟨S1x512x128, .f32⟩
  | .local _ .vmem, ⟨68, _⟩ => ⟨S1x512x128, .f32⟩
  | .local _ .vmem, ⟨69, _⟩ => ⟨S1x512x128, .f32⟩
  | .local _ .vmem, ⟨70, _⟩ => ⟨S1x512x128, .f32⟩
  | .local _ .vmem, ⟨71, _⟩ => ⟨S1x512x128, .f32⟩
  | .local _ .vmem, ⟨72, _⟩ => ⟨S8x512, .f32⟩
  | .local _ .vmem, ⟨73, _⟩ => ⟨S8x512, .f32⟩
  | .local _ .vmem, ⟨74, _⟩ => ⟨S64x512, .f32⟩
  | .local _ .smem, ⟨0, _⟩ => ⟨S32x128, .i32⟩
  | _, _ => ⟨S32x128x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_scratch0 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73

abbrev nD : Nat := 1
abbrev τ : Topo := Topo.v7x

variable {F : FTy → Type} [FloatOps F]

abbrev grid0 : Pipeline.Grid := ⟨2, ![32, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 2 → Nat :=
  let arg0 : BitVec 32 := BitVec.ofNat 32 (i 0).val
  let v2 : Index := Scalar.indexCast arg0
  let arg1 : BitVec 32 := BitVec.ofNat 32 (i 1).val
  let c32_i32 : BitVec 32 := 32#32
  let v0 : BitVec 32 := Scalar.muli arg1 c32_i32
  let v1 : BitVec 32 := Scalar.addi v0 c0_i32
  let v3 : Index := Scalar.indexCast v1
  ![v2.toNat, v3.toNat]
def k0_cond2 (i : grid0.Coords) : BitVec 1 :=
  let arg1 : BitVec 32 := BitVec.ofNat 32 (i 1).val
  let c3_i32 : BitVec 32 := 3#32
  let v231 : BitVec 1 := Scalar.cmpi .eq arg1 c3_i32
  let v232 : BitVec 32 := Scalar.extui v231
  let c0_i32_228 : BitVec 32 := 0#32
  let v233 : BitVec 1 := Scalar.cmpi .ne v232 c0_i32_228
  v233

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32 : BitVec 32 := 0#32
  let v1 : BitVec 32 := Scalar.addi v0 c0_i32
  let v2 : Index := Scalar.indexCast arg0
  let v3 : Index := Scalar.indexCast v1
  let v4 : BitVec 32 := pf.at 0 (Rect.unit (s := S32x128) ![v2.toNat, v3.toNat] S1x1.size (k0_off1_inb i 0)) numel1_S1x1
  let c0_i32_0 : BitVec 32 := 0#32
  let v5 : BitVec 32 := Scalar.addi c0_i32_0 v4
  let c0_i32_1 : BitVec 32 := 0#32
  let c0_i32_2 : BitVec 32 := 0#32
  let c0_i32_3 : BitVec 32 := 0#32
  ![v5.toNat, c0_i32_1.toNat, c0_i32_2.toNat]

def cc0_transform_5 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.addi v0 c1_i32
  let v2 : Index := Scalar.indexCast arg0
  let v3 : Index := Scalar.indexCast v1
  let v4 : BitVec 32 := pf.at 0 (Rect.unit (s := S32x128) ![v2.toNat, v3.toNat] S1x1.size (k0_off1_inb i 1)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_6 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c2_i32 : BitVec 32 := 2#32
  let v1 : BitVec 32 := Scalar.addi v0 c2_i32
  let v2 : Index := Scalar.indexCast arg0
  let v3 : Index := Scalar.indexCast v1
  let v4 : BitVec 32 := pf.at 0 (Rect.unit (s := S32x128) ![v2.toNat, v3.toNat] S1x1.size (k0_off1_inb i 2)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_7 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c3_i32 : BitVec 32 := 3#32
  let v1 : BitVec 32 := Scalar.addi v0 c3_i32
  let v2 : Index := Scalar.indexCast arg0
  let v3 : Index := Scalar.indexCast v1
  let v4 : BitVec 32 := pf.at 0 (Rect.unit (s := S32x128) ![v2.toNat, v3.toNat] S1x1.size (k0_off1_inb i 3)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_8 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c4_i32 : BitVec 32 := 4#32
  let v1 : BitVec 32 := Scalar.addi v0 c4_i32
  let v2 : Index := Scalar.indexCast arg0
  let v3 : Index := Scalar.indexCast v1
  let v4 : BitVec 32 := pf.at 0 (Rect.unit (s := S32x128) ![v2.toNat, v3.toNat] S1x1.size (k0_off1_inb i 4)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_9 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c5_i32 : BitVec 32 := 5#32
  let v1 : BitVec 32 := Scalar.addi v0 c5_i32
  let v2 : Index := Scalar.indexCast arg0
  let v3 : Index := Scalar.indexCast v1
  let v4 : BitVec 32 := pf.at 0 (Rect.unit (s := S32x128) ![v2.toNat, v3.toNat] S1x1.size (k0_off1_inb i 5)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_10 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c6_i32 : BitVec 32 := 6#32
  let v1 : BitVec 32 := Scalar.addi v0 c6_i32
  let v2 : Index := Scalar.indexCast arg0
  let v3 : Index := Scalar.indexCast v1
  let v4 : BitVec 32 := pf.at 0 (Rect.unit (s := S32x128) ![v2.toNat, v3.toNat] S1x1.size (k0_off1_inb i 6)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_11 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c7_i32 : BitVec 32 := 7#32
  let v1 : BitVec 32 := Scalar.addi v0 c7_i32
  let v2 : Index := Scalar.indexCast arg0
  let v3 : Index := Scalar.indexCast v1
  let v4 : BitVec 32 := pf.at 0 (Rect.unit (s := S32x128) ![v2.toNat, v3.toNat] S1x1.size (k0_off1_inb i 7)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_12 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c8_i32 : BitVec 32 := 8#32
  let v1 : BitVec 32 := Scalar.addi v0 c8_i32
  let v2 : Index := Scalar.indexCast arg0
  let v3 : Index := Scalar.indexCast v1
  let v4 : BitVec 32 := pf.at 0 (Rect.unit (s := S32x128) ![v2.toNat, v3.toNat] S1x1.size (k0_off1_inb i 8)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_13 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c9_i32 : BitVec 32 := 9#32
  let v1 : BitVec 32 := Scalar.addi v0 c9_i32
  let v2 : Index := Scalar.indexCast arg0
  let v3 : Index := Scalar.indexCast v1
  let v4 : BitVec 32 := pf.at 0 (Rect.unit (s := S32x128) ![v2.toNat, v3.toNat] S1x1.size (k0_off1_inb i 9)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_14 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c10_i32 : BitVec 32 := 10#32
  let v1 : BitVec 32 := Scalar.addi v0 c10_i32
  let v2 : Index := Scalar.indexCast arg0
  let v3 : Index := Scalar.indexCast v1
  let v4 : BitVec 32 := pf.at 0 (Rect.unit (s := S32x128) ![v2.toNat, v3.toNat] S1x1.size (k0_off1_inb i 10)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_15 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c11_i32 : BitVec 32 := 11#32
  let v1 : BitVec 32 := Scalar.addi v0 c11_i32
  let v2 : Index := Scalar.indexCast arg0
  let v3 : Index := Scalar.indexCast v1
  let v4 : BitVec 32 := pf.at 0 (Rect.unit (s := S32x128) ![v2.toNat, v3.toNat] S1x1.size (k0_off1_inb i 11)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_16 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c12_i32 : BitVec 32 := 12#32
  let v1 : BitVec 32 := Scalar.addi v0 c12_i32
  let v2 : Index := Scalar.indexCast arg0
  let v3 : Index := Scalar.indexCast v1
  let v4 : BitVec 32 := pf.at 0 (Rect.unit (s := S32x128) ![v2.toNat, v3.toNat] S1x1.size (k0_off1_inb i 12)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_17 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c13_i32 : BitVec 32 := 13#32
  let v1 : BitVec 32 := Scalar.addi v0 c13_i32
  let v2 : Index := Scalar.indexCast arg0
  let v3 : Index := Scalar.indexCast v1
  let v4 : BitVec 32 := pf.at 0 (Rect.unit (s := S32x128) ![v2.toNat, v3.toNat] S1x1.size (k0_off1_inb i 13)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_18 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c14_i32 : BitVec 32 := 14#32
  let v1 : BitVec 32 := Scalar.addi v0 c14_i32
  let v2 : Index := Scalar.indexCast arg0
  let v3 : Index := Scalar.indexCast v1
  let v4 : BitVec 32 := pf.at 0 (Rect.unit (s := S32x128) ![v2.toNat, v3.toNat] S1x1.size (k0_off1_inb i 14)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_19 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c15_i32 : BitVec 32 := 15#32
  let v1 : BitVec 32 := Scalar.addi v0 c15_i32
  let v2 : Index := Scalar.indexCast arg0
  let v3 : Index := Scalar.indexCast v1
  let v4 : BitVec 32 := pf.at 0 (Rect.unit (s := S32x128) ![v2.toNat, v3.toNat] S1x1.size (k0_off1_inb i 15)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_20 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c16_i32 : BitVec 32 := 16#32
  let v1 : BitVec 32 := Scalar.addi v0 c16_i32
  let v2 : Index := Scalar.indexCast arg0
  let v3 : Index := Scalar.indexCast v1
  let v4 : BitVec 32 := pf.at 0 (Rect.unit (s := S32x128) ![v2.toNat, v3.toNat] S1x1.size (k0_off1_inb i 16)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_21 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c17_i32 : BitVec 32 := 17#32
  let v1 : BitVec 32 := Scalar.addi v0 c17_i32
  let v2 : Index := Scalar.indexCast arg0
  let v3 : Index := Scalar.indexCast v1
  let v4 : BitVec 32 := pf.at 0 (Rect.unit (s := S32x128) ![v2.toNat, v3.toNat] S1x1.size (k0_off1_inb i 17)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_22 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c18_i32 : BitVec 32 := 18#32
  let v1 : BitVec 32 := Scalar.addi v0 c18_i32
  let v2 : Index := Scalar.indexCast arg0
  let v3 : Index := Scalar.indexCast v1
  let v4 : BitVec 32 := pf.at 0 (Rect.unit (s := S32x128) ![v2.toNat, v3.toNat] S1x1.size (k0_off1_inb i 18)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_23 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c19_i32 : BitVec 32 := 19#32
  let v1 : BitVec 32 := Scalar.addi v0 c19_i32
  let v2 : Index := Scalar.indexCast arg0
  let v3 : Index := Scalar.indexCast v1
  let v4 : BitVec 32 := pf.at 0 (Rect.unit (s := S32x128) ![v2.toNat, v3.toNat] S1x1.size (k0_off1_inb i 19)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_24 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c20_i32 : BitVec 32 := 20#32
  let v1 : BitVec 32 := Scalar.addi v0 c20_i32
  let v2 : Index := Scalar.indexCast arg0
  let v3 : Index := Scalar.indexCast v1
  let v4 : BitVec 32 := pf.at 0 (Rect.unit (s := S32x128) ![v2.toNat, v3.toNat] S1x1.size (k0_off1_inb i 20)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_25 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c21_i32 : BitVec 32 := 21#32
  let v1 : BitVec 32 := Scalar.addi v0 c21_i32
  let v2 : Index := Scalar.indexCast arg0
  let v3 : Index := Scalar.indexCast v1
  let v4 : BitVec 32 := pf.at 0 (Rect.unit (s := S32x128) ![v2.toNat, v3.toNat] S1x1.size (k0_off1_inb i 21)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_26 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c22_i32 : BitVec 32 := 22#32
  let v1 : BitVec 32 := Scalar.addi v0 c22_i32
  let v2 : Index := Scalar.indexCast arg0
  let v3 : Index := Scalar.indexCast v1
  let v4 : BitVec 32 := pf.at 0 (Rect.unit (s := S32x128) ![v2.toNat, v3.toNat] S1x1.size (k0_off1_inb i 22)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_27 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c23_i32 : BitVec 32 := 23#32
  let v1 : BitVec 32 := Scalar.addi v0 c23_i32
  let v2 : Index := Scalar.indexCast arg0
  let v3 : Index := Scalar.indexCast v1
  let v4 : BitVec 32 := pf.at 0 (Rect.unit (s := S32x128) ![v2.toNat, v3.toNat] S1x1.size (k0_off1_inb i 23)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_28 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c24_i32 : BitVec 32 := 24#32
  let v1 : BitVec 32 := Scalar.addi v0 c24_i32
  let v2 : Index := Scalar.indexCast arg0
  let v3 : Index := Scalar.indexCast v1
  let v4 : BitVec 32 := pf.at 0 (Rect.unit (s := S32x128) ![v2.toNat, v3.toNat] S1x1.size (k0_off1_inb i 24)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_29 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c25_i32 : BitVec 32 := 25#32
  let v1 : BitVec 32 := Scalar.addi v0 c25_i32
  let v2 : Index := Scalar.indexCast arg0
  let v3 : Index := Scalar.indexCast v1
  let v4 : BitVec 32 := pf.at 0 (Rect.unit (s := S32x128) ![v2.toNat, v3.toNat] S1x1.size (k0_off1_inb i 25)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_30 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c26_i32 : BitVec 32 := 26#32
  let v1 : BitVec 32 := Scalar.addi v0 c26_i32
  let v2 : Index := Scalar.indexCast arg0
  let v3 : Index := Scalar.indexCast v1
  let v4 : BitVec 32 := pf.at 0 (Rect.unit (s := S32x128) ![v2.toNat, v3.toNat] S1x1.size (k0_off1_inb i 26)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_31 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c27_i32 : BitVec 32 := 27#32
  let v1 : BitVec 32 := Scalar.addi v0 c27_i32
  let v2 : Index := Scalar.indexCast arg0
  let v3 : Index := Scalar.indexCast v1
  let v4 : BitVec 32 := pf.at 0 (Rect.unit (s := S32x128) ![v2.toNat, v3.toNat] S1x1.size (k0_off1_inb i 27)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_32 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c28_i32 : BitVec 32 := 28#32
  let v1 : BitVec 32 := Scalar.addi v0 c28_i32
  let v2 : Index := Scalar.indexCast arg0
  let v3 : Index := Scalar.indexCast v1
  let v4 : BitVec 32 := pf.at 0 (Rect.unit (s := S32x128) ![v2.toNat, v3.toNat] S1x1.size (k0_off1_inb i 28)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_33 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c29_i32 : BitVec 32 := 29#32
  let v1 : BitVec 32 := Scalar.addi v0 c29_i32
  let v2 : Index := Scalar.indexCast arg0
  let v3 : Index := Scalar.indexCast v1
  let v4 : BitVec 32 := pf.at 0 (Rect.unit (s := S32x128) ![v2.toNat, v3.toNat] S1x1.size (k0_off1_inb i 29)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_34 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c30_i32 : BitVec 32 := 30#32
  let v1 : BitVec 32 := Scalar.addi v0 c30_i32
  let v2 : Index := Scalar.indexCast arg0
  let v3 : Index := Scalar.indexCast v1
  let v4 : BitVec 32 := pf.at 0 (Rect.unit (s := S32x128) ![v2.toNat, v3.toNat] S1x1.size (k0_off1_inb i 30)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_35 (k0_off1_inb : ∀ i : grid0.Coords, ∀ (r : Fin 32), ∀ a, (k0_off1 i (BitVec.ofNat 32 r.val)) a + S1x1.size a ≤ S32x128.size a) (numel1_S1x1 : S1x1.numel = 1) (pf : pre0.Contents (Elt F)) (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c31_i32 : BitVec 32 := 31#32
  let v1 : BitVec 32 := Scalar.addi v0 c31_i32
  let v2 : Index := Scalar.indexCast arg0
  let v3 : Index := Scalar.indexCast v1
  let v4 : BitVec 32 := pf.at 0 (Rect.unit (s := S32x128) ![v2.toNat, v3.toNat] S1x1.size (k0_off1_inb i 31)) numel1_S1x1
  let c0_i32 : BitVec 32 := 0#32
  let v5 : BitVec 32 := Scalar.addi c0_i32 v4
  let c0_i32_0 : BitVec 32 := 0#32
  let c0_i32_1 : BitVec 32 := 0#32
  let c0_i32_2 : BitVec 32 := 0#32
  ![v5.toNat, c0_i32_0.toNat, c0_i32_1.toNat]

def cc0_transform_36 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x32x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x512x128 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x512x128 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x512x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x512x128 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x512x128 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x512x128 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]

abbrev stage0_36 : Fin 2 → Memref sig .tc .vmem S8x512 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true, false]
-- ==== ReferenceIdeal.lean ====
abbrev S32x128 : Shape := ⟨2, ![32, 128]⟩
abbrev S32x128x64x128 : Shape := ⟨4, ![32, 128, 64, 128]⟩
abbrev S32x64x128 : Shape := ⟨3, ![32, 64, 128]⟩
abbrev S256x512 : Shape := ⟨2, ![256, 512]⟩
abbrev S2x5120x128x8x64 : Shape := ⟨5, ![2, 5120, 128, 8, 64]⟩
abbrev S1x5120x128x8x64 : Shape := ⟨5, ![1, 5120, 128, 8, 64]⟩
abbrev S5120x128x8x64 : Shape := ⟨4, ![5120, 128, 8, 64]⟩
abbrev S_ : Shape := ⟨0, ![]⟩
abbrev S32x128x1 : Shape := ⟨3, ![32, 128, 1]⟩
abbrev S32x128x128x8x64 : Shape := ⟨5, ![32, 128, 128, 8, 64]⟩
abbrev S32x16384x8x64 : Shape := ⟨4, ![32, 16384, 8, 64]⟩
abbrev S32x8x8x64 : Shape := ⟨4, ![32, 8, 8, 64]⟩
abbrev S32x16392x8x64 : Shape := ⟨4, ![32, 16392, 8, 64]⟩
abbrev S32x64x128x128 : Shape := ⟨4, ![32, 64, 128, 128]⟩
abbrev S32x8x8x16384 : Shape := ⟨4, ![32, 8, 8, 16384]⟩
abbrev S32x8x8x128 : Shape := ⟨4, ![32, 8, 8, 128]⟩
abbrev S32x8x8x8 : Shape := ⟨4, ![32, 8, 8, 8]⟩
abbrev S32x8x8x16392 : Shape := ⟨4, ![32, 8, 8, 16392]⟩
abbrev S32x64x1 : Shape := ⟨3, ![32, 64, 1]⟩
abbrev S32x64 : Shape := ⟨2, ![32, 64]⟩
abbrev S32x8x8 : Shape := ⟨3, ![32, 8, 8]⟩
abbrev S32x8x8x1 : Shape := ⟨4, ![32, 8, 8, 1]⟩
abbrev S32x8x64x8 : Shape := ⟨4, ![32, 8, 64, 8]⟩

abbrev nBuf : Space → Nat
  | .hbm => 36
  | .vmem => 0
  | .smem => 0
  | _ => 0

abbrev bufTy : (tb : Table) → Fin (tcTables nBuf tb) → BufTy
  | .hbm, ⟨0, _⟩ => ⟨S32x128, .i32⟩
  | .hbm, ⟨1, _⟩ => ⟨S32x128x64x128, .bf16⟩
  | .hbm, ⟨2, _⟩ => ⟨S32x64x128, .bf16⟩
  | .hbm, ⟨3, _⟩ => ⟨S32x64x128, .f32⟩
  | .hbm, ⟨4, _⟩ => ⟨S256x512, .f32⟩
  | .hbm, ⟨5, _⟩ => ⟨S2x5120x128x8x64, .f32⟩
  | .hbm, ⟨6, _⟩ => ⟨S1x5120x128x8x64, .f32⟩
  | .hbm, ⟨7, _⟩ => ⟨S5120x128x8x64, .f32⟩
  | .hbm, ⟨8, _⟩ => ⟨S_, .i32⟩
  | .hbm, ⟨9, _⟩ => ⟨S32x128, .i32⟩
  | .hbm, ⟨10, _⟩ => ⟨S32x128, .i1⟩
  | .hbm, ⟨11, _⟩ => ⟨S_, .i32⟩
  | .hbm, ⟨12, _⟩ => ⟨S32x128, .i32⟩
  | .hbm, ⟨13, _⟩ => ⟨S32x128, .i32⟩
  | .hbm, ⟨14, _⟩ => ⟨S32x128, .i32⟩
  | .hbm, ⟨15, _⟩ => ⟨S32x128x1, .i32⟩
  | .hbm, ⟨16, _⟩ => ⟨S32x128x128x8x64, .f32⟩
  | .hbm, ⟨17, _⟩ => ⟨S32x16384x8x64, .f32⟩
  | .hbm, ⟨18, _⟩ => ⟨S32x8x8x64, .f32⟩
  | .hbm, ⟨19, _⟩ => ⟨S32x16392x8x64, .f32⟩
  | .hbm, ⟨20, _⟩ => ⟨S32x128x64x128, .f32⟩
  | .hbm, ⟨21, _⟩ => ⟨S32x64x128x128, .f32⟩
  | .hbm, ⟨22, _⟩ => ⟨S32x8x8x16384, .f32⟩
  | .hbm, ⟨23, _⟩ => ⟨S32x64x128, .f32⟩
  | .hbm, ⟨24, _⟩ => ⟨S32x8x8x128, .f32⟩
  | .hbm, ⟨25, _⟩ => ⟨S32x8x8x8, .f32⟩
  | .hbm, ⟨26, _⟩ => ⟨S32x8x8x16392, .f32⟩
  | .hbm, ⟨27, _⟩ => ⟨S32x64x1, .f32⟩
  | .hbm, ⟨28, _⟩ => ⟨S32x64, .f32⟩
  | .hbm, ⟨29, _⟩ => ⟨S32x8x8, .f32⟩
  | .hbm, ⟨30, _⟩ => ⟨S32x8x8x1, .f32⟩
  | .hbm, ⟨31, _⟩ => ⟨S32x8x8x16392, .f32⟩
  | .hbm, ⟨32, _⟩ => ⟨S32x8x8x16392, .f32⟩
  | .hbm, ⟨33, _⟩ => ⟨S32x8x64x8, .f32⟩
  | .hbm, ⟨34, _⟩ => ⟨S32x8x8x64, .f32⟩
  | .hbm, ⟨35, _⟩ => ⟨S256x512, .f32⟩
  | _, _ => ⟨S32x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel2.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 14
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S1024x1024, .bf16⟩
  | .hbm, ⟨11, _⟩ => ⟨S1024x2816, .bf16⟩
  | .hbm, ⟨12, _⟩ => ⟨S1024x2816, .bf16⟩
  | .hbm, ⟨13, _⟩ => ⟨S2816x1024, .bf16⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1024x2816, .bf16⟩
  | .local _ .vmem, ⟨8, _⟩ => ⟨S1024x2816, .bf16⟩
  | .local _ .vmem, ⟨9, _⟩ => ⟨S2816x1024, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32768x1024 : Shape := ⟨2, ![32768, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 91
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768, .f32⟩
  | .hbm, ⟨27, _⟩ => ⟨S32768x1, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S1x1024, .f32⟩
  | .hbm, ⟨43, _⟩ => ⟨S32768x1024, .f32⟩
  | .hbm, ⟨44, _⟩ => ⟨S32768x1024, .f32⟩
  | .hbm, ⟨45, _⟩ => ⟨S32768x2816, .f32⟩
  | .hbm, ⟨46, _⟩ => ⟨S32768x2816, .f32⟩
  | .hbm, ⟨47, _⟩ => ⟨S32768x2816, .f32⟩
  | .hbm, ⟨48, _⟩ => ⟨S_, .f32⟩
  | .hbm, ⟨49, _⟩ => ⟨S32768x2816, .f32⟩
  | .hbm, ⟨50, _⟩ => ⟨S32768x2816, .f32⟩
  | .hbm, ⟨51, _⟩ => ⟨S_, .f32⟩
  | .hbm, ⟨52, _⟩ => ⟨S32768x2816, .f32⟩
  | .hbm, ⟨53, _⟩ => ⟨S32768x2816, .f32⟩
  | .hbm, ⟨54, _⟩ => ⟨S32768x2816, .f32⟩
  | .hbm, ⟨55, _⟩ => ⟨S32768x2816, .f32⟩
  | .hbm, ⟨56, _⟩ => ⟨S32768x2816, .f32⟩
  | .hbm, ⟨57, _⟩ => ⟨S32768x1024, .f32⟩
  | .hbm, ⟨58, _⟩ => ⟨S_, .f32⟩
  | .hbm, ⟨59, _⟩ => ⟨S32768x1024, .f32⟩
  | .hbm, ⟨60, _⟩ => ⟨S32768x1024, .f32⟩
  | .hbm, ⟨61, _⟩ => ⟨S32768x1024, .f32⟩
  | .hbm, ⟨62, _⟩ => ⟨S_, .f32⟩
  | .hbm, ⟨63, _⟩ => ⟨S32768, .f32⟩
  | .hbm, ⟨64, _⟩ => ⟨S32768x1, .f32⟩
  | .hbm, ⟨65, _⟩ => ⟨S_, .f32⟩
  | .hbm, ⟨66, _⟩ => ⟨S32768x1, .f32⟩
  | .hbm, ⟨67, _⟩ => ⟨S32768x1, .f32⟩
  | .hbm, ⟨68, _⟩ => ⟨S32768x1024, .f32⟩
  | .hbm, ⟨69, _⟩ => ⟨S32768x1024, .f32⟩
  | .hbm, ⟨70, _⟩ => ⟨S32768x1024, .f32⟩
  | .hbm, ⟨71, _⟩ => ⟨S_, .f32⟩
  | .hbm, ⟨72, _⟩ => ⟨S32768, .f32⟩
  | .hbm, ⟨73, _⟩ => ⟨S32768x1, .f32⟩
  | .hbm, ⟨74, _⟩ => ⟨S_, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S_, .f32⟩
  | .hbm, ⟨80, _⟩ => ⟨S32768x1, .f32⟩
  | .hbm, ⟨81, _⟩ => ⟨S32768x1, .f32⟩
  | .hbm, ⟨82, _⟩ => ⟨S32768x1, .f32⟩
  | .hbm, ⟨83, _⟩ => ⟨S32768x1024, .f32⟩
  | .hbm, ⟨84, _⟩ => ⟨S32768x1024, .f32⟩
  | .hbm, ⟨85, _⟩ => ⟨S1x1024, .f32⟩
  | .hbm, ⟨86, _⟩ => ⟨S32768x1024, .f32⟩
  | .hbm, ⟨87, _⟩ => ⟨S32768x1024, .f32⟩
  | .hbm, ⟨88, _⟩ => ⟨S1x1024, .f32⟩
  | .hbm, ⟨89, _⟩ => ⟨S32768x1024, .f32⟩
  | .hbm, ⟨90, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Kernel3.lean ====
abbrev S32768x1024 : Shape := ⟨2, ![32768, 1024]⟩
abbrev S4x2048x1024 : Shape := ⟨3, ![4, 2048, 1024]⟩
abbrev S512x1024 : Shape := ⟨2, ![512, 1024]⟩
abbrev S1x256x1024 : Shape := ⟨3, ![1, 256, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S4x2048x1024, .f32⟩
  | .hbm, ⟨2, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S512x1024, .bf16⟩
  | .local _ .vmem, ⟨7, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S32768x1024 : Shape := ⟨2, ![32768, 1024]⟩
abbrev S4x2048x1024 : Shape := ⟨3, ![4, 2048, 1024]⟩
abbrev S8x4096x4x256 : Shape := ⟨4, ![8, 4096, 4, 256]⟩
abbrev S1x2048x1024 : Shape := ⟨3, ![1, 2048, 1024]⟩
abbrev S2048x1024 : Shape := ⟨2, ![2048, 1024]⟩
abbrev S8x256x4x256 : Shape := ⟨4, ![8, 256, 4, 256]⟩
abbrev S8x4x4096x256 : Shape := ⟨4, ![8, 4, 4096, 256]⟩
abbrev S_ : Shape := ⟨0, ![]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S4x2048x1024, .f32⟩
  | .hbm, ⟨2, _⟩ => ⟨S32768x1024, .f32⟩
  | .hbm, ⟨3, _⟩ => ⟨S8x4096x4x256, .f32⟩
  | .hbm, ⟨4, _⟩ => ⟨S1x2048x1024, .f32⟩
  | .hbm, ⟨5, _⟩ => ⟨S2048x1024, .f32⟩
  | .hbm, ⟨6, _⟩ => ⟨S8x256x4x256, .f32⟩
  | .hbm, ⟨7, _⟩ => ⟨S1x2048x1024, .f32⟩
  | .hbm, ⟨8, _⟩ => ⟨S2048x1024, .f32⟩
  | .hbm, ⟨9, _⟩ => ⟨S8x256x4x256, .f32⟩
  | .hbm, ⟨10, _⟩ => ⟨S8x4x4096x256, .f32⟩
  | .hbm, ⟨11, _⟩ => ⟨S_, .f32⟩
  | .hbm, ⟨12, _⟩ => ⟨S8x4x4096, .f32⟩
  | .hbm, ⟨13, _⟩ => ⟨S_, .f32⟩
  | .hbm, ⟨14, _⟩ => ⟨S8x4x4096, .f32⟩
  | .hbm, ⟨15, _⟩ => ⟨S8x4x4096, .f32⟩
  | .hbm, ⟨16, _⟩ => ⟨S8x4x4096x1, .f32⟩
  | .hbm, ⟨17, _⟩ => ⟨S8x4x4096x256, .f32⟩
  | .hbm, ⟨18, _⟩ => ⟨S8x4x4096x256, .f32⟩
  | .hbm, ⟨19, _⟩ => ⟨S8x4x4096x256, .f32⟩
  | .hbm, ⟨20, _⟩ => ⟨S_, .f32⟩
  | .hbm, ⟨21, _⟩ => ⟨S8x4x4096, .f32⟩
  | .hbm, ⟨22, _⟩ => ⟨S8x4x4096x1, .f32⟩
  | .hbm, ⟨23, _⟩ => ⟨S8x4x4096x256, .f32⟩
  | .hbm, ⟨24, _⟩ => ⟨S8x4x4096x256, .f32⟩
  | .hbm, ⟨25, _⟩ => ⟨S8x4x256x4096, .f32⟩
  | .hbm, ⟨26, _⟩ => ⟨S8x4096x4x256, .f32⟩
  | .hbm, ⟨27, _⟩ => ⟨S32768x1024, .f32⟩
  | .hbm, ⟨28, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel4.lean ====
abbrev S8x256x1024 : Shape := ⟨3, ![8, 256, 1024]⟩
abbrev S2x1024x1024 : Shape := ⟨3, ![2, 1024, 1024]⟩
abbrev S4x1024x1024 : Shape := ⟨3, ![4, 1024, 1024]⟩
abbrev S2048x1024 : Shape := ⟨2, ![2048, 1024]⟩
abbrev S4x2048x1024 : Shape := ⟨3, ![4, 2048, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S2x1024x1024, .f32⟩
  | .hbm, ⟨2, _⟩ => ⟨S2x1024x1024, .f32⟩
  | .hbm, ⟨3, _⟩ => ⟨S4x1024x1024, .f32⟩
  | .hbm, ⟨4, _⟩ => ⟨S4x1024x1024, .bf16⟩
  | .hbm, ⟨5, _⟩ => ⟨S2048x1024, .f32⟩
  | .hbm, ⟨6, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x512x1024, .f32⟩
  | .local _ .vmem, ⟨5, _⟩ => ⟨S1x512x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8x256x1024 : Shape := ⟨3, ![8, 256, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S1x8x256x1024 : Shape := ⟨4, ![1, 8, 256, 1024]⟩
abbrev S2x8x256x1024 : Shape := ⟨4, ![2, 8, 256, 1024]⟩
abbrev S4x8x256x1024 : Shape := ⟨4, ![4, 8, 256, 1024]⟩
abbrev S4x2048x1024 : Shape := ⟨3, ![4, 2048, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024x1024, .f32⟩
  | .hbm, ⟨2, _⟩ => ⟨S2x1024x1024, .f32⟩
  | .hbm, ⟨3, _⟩ => ⟨S1x1024x1024, .f32⟩
  | .hbm, ⟨4, _⟩ => ⟨S1024x1024, .f32⟩
  | .hbm, ⟨5, _⟩ => ⟨S8x256x1024, .f32⟩
  | .hbm, ⟨6, _⟩ => ⟨S1x1024x1024, .f32⟩
  | .hbm, ⟨7, _⟩ => ⟨S1024x1024, .f32⟩
  | .hbm, ⟨8, _⟩ => ⟨S8x256x1024, .f32⟩
  | .hbm, ⟨9, _⟩ => ⟨S1x8x256x1024, .f32⟩
  | .hbm, ⟨10, _⟩ => ⟨S1x8x256x1024, .f32⟩
  | .hbm, ⟨11, _⟩ => ⟨S2x8x256x1024, .f32⟩
  | .hbm, ⟨12, _⟩ => ⟨S1x1024x1024, .f32⟩
  | .hbm, ⟨13, _⟩ => ⟨S1024x1024, .f32⟩
  | .hbm, ⟨14, _⟩ => ⟨S8x256x1024, .f32⟩
  | .hbm, ⟨15, _⟩ => ⟨S1x1024x1024, .f32⟩
  | .hbm, ⟨16, _⟩ => ⟨S1024x1024, .f32⟩
  | .hbm, ⟨17, _⟩ => ⟨S8x256x1024, .f32⟩
  | .hbm, ⟨18, _⟩ => ⟨S1x8x256x1024, .f32⟩
  | .hbm, ⟨19, _⟩ => ⟨S1x8x256x1024, .f32⟩
  | .hbm, ⟨20, _⟩ => ⟨S2x8x256x1024, .f32⟩
  | .hbm, ⟨21, _⟩ => ⟨S4x8x256x1024, .f32⟩
  | .hbm, ⟨22, _⟩ => ⟨S4x2048x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel5.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024x1024, .bf16⟩
  | .hbm, ⟨8, _⟩ => ⟨S1x1024, .f32⟩
  | .hbm, ⟨9, _⟩ => ⟨S1x1024, .f32⟩
  | .hbm, ⟨10, _⟩ => ⟨S1024x1024, .bf16⟩
  | .hbm, ⟨11, _⟩ => ⟨S32768x1024, .f32⟩
  | .hbm, ⟨12, _⟩ => ⟨S32768x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S32768x512, .f32⟩
  | .hbm, ⟨8, _⟩ => ⟨S32768x512, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S1x1024, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768x1024, .f32⟩
  | .hbm, ⟨47, _⟩ => ⟨S32768x1024, .f32⟩
  | .hbm, ⟨48, _⟩ => ⟨S32768x1024, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel6.lean ====
abbrev S8x4096x1024 : Shape := ⟨3, ![8, 4096, 1024]⟩
abbrev S1024x2304 : Shape := ⟨2, ![1024, 2304]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S4x4 : Shape := ⟨2, ![4, 4]⟩
abbrev S_ : Shape := ⟨0, ![]⟩
abbrev S4x1x4x1 : Shape := ⟨4, ![4, 1, 4, 1]⟩
abbrev S4x64x1x64 : Shape := ⟨4, ![4, 64, 1, 64]⟩
abbrev S4x64x4x64 : Shape := ⟨4, ![4, 64, 4, 64]⟩
abbrev S256x256 : Shape := ⟨2, ![256, 256]⟩
abbrev S128x128 : Shape := ⟨2, ![128, 128]⟩
abbrev S128x4 : Shape := ⟨2, ![128, 4]⟩
abbrev S128x4x64 : Shape := ⟨3, ![128, 4, 64]⟩
abbrev S128x256 : Shape := ⟨2, ![128, 256]⟩
abbrev S32768x1024 : Shape := ⟨2, ![32768, 1024]⟩
abbrev S1x256 : Shape := ⟨2, ![1, 256]⟩
abbrev S32768x512 : Shape := ⟨2, ![32768, 512]⟩
abbrev S1x8x8x64x4096 : Shape := ⟨5, ![1, 8, 8, 64, 4096]⟩
abbrev S8x16x256 : Shape := ⟨3, ![8, 16, 256]⟩
abbrev S1024x1024 : Shape := ⟨2, ![1024, 1024]⟩
abbrev S1024x512 : Shape := ⟨2, ![1024, 512]⟩
abbrev S1x1x8x64x1024 : Shape := ⟨5, ![1, 1, 8, 64, 1024]⟩
abbrev S1x16x256 : Shape := ⟨3, ![1, 16, 256]⟩
abbrev S1040x256 : Shape := ⟨2, ![1040, 256]⟩
abbrev S16x256 : Shape := ⟨2, ![16, 256]⟩
abbrev S1024x256 : Shape := ⟨2, ![1024, 256]⟩
abbrev S1024 : Shape := ⟨1, ![1024]⟩
abbrev S1024x1 : Shape := ⟨2, ![1024, 1]⟩
abbrev S1x128x128 : Shape := ⟨3, ![1, 128, 128]⟩
abbrev S512x1024 : Shape := ⟨2, ![512, 1024]⟩
abbrev S8x64x1024 : Shape := ⟨3, ![8, 64, 1024]⟩

abbrev nBuf : Space → Nat
  | .hbm => 53
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S1024x2304, .f32⟩
  | .hbm, ⟨2, _⟩ => ⟨S4x64x64, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S4x128x128, .f32⟩
  | .hbm, ⟨7, _⟩ => ⟨S4x128, .f32⟩
  | .hbm, ⟨8, _⟩ => ⟨S4x4, .i32⟩
  | .hbm, ⟨9, _⟩ => ⟨S4x4, .i32⟩
  | .hbm, ⟨10, _⟩ => ⟨S_, .i32⟩
  | .hbm, ⟨11, _⟩ => ⟨S4x4, .i32⟩
  | .hbm, ⟨12, _⟩ => ⟨S4x4, .i32⟩
  | .hbm, ⟨13, _⟩ => ⟨S4x4, .i1⟩
  | .hbm, ⟨14, _⟩ => ⟨S4x4, .f32⟩
  | .hbm, ⟨15, _⟩ => ⟨S4x1x4x1, .f32⟩
  | .hbm, ⟨16, _⟩ => ⟨S4x64x1x64, .f32⟩
  | .hbm, ⟨17, _⟩ => ⟨S4x64x4x64, .f32⟩
  | .hbm, ⟨18, _⟩ => ⟨S4x64x4x64, .f32⟩
  | .hbm, ⟨19, _⟩ => ⟨S4x64x4x64, .f32⟩
  | .hbm, ⟨20, _⟩ => ⟨S256x256, .f32⟩
  | .hbm, ⟨21, _⟩ => ⟨S256x256, .bf16⟩
  | .hbm, ⟨22, _⟩ => ⟨S_, .i1⟩
  | .hbm, ⟨23, _⟩ => ⟨S128x128, .i1⟩
  | .hbm, ⟨24, _⟩ => ⟨S128x128, .i32⟩
  | .hbm, ⟨25, _⟩ => ⟨S_, .i32⟩
  | .hbm, ⟨26, _⟩ => ⟨S128x128, .i32⟩
  | .hbm, ⟨27, _⟩ => ⟨S128x128, .i32⟩
  | .hbm, ⟨28, _⟩ => ⟨S128x128, .i32⟩
  | .hbm, ⟨29, _⟩ => ⟨S128x128, .i1⟩
  | .hbm, ⟨30, _⟩ => ⟨S_, .i1⟩
  | .hbm, ⟨31, _⟩ => ⟨S128x128, .i1⟩
  | .hbm, ⟨32, _⟩ => ⟨S128x128, .i1⟩
  | .hbm, ⟨33, _⟩ => ⟨S_, .f32⟩
  | .hbm, ⟨34, _⟩ => ⟨S_, .f32⟩
  | .hbm, ⟨35, _⟩ => ⟨S4x128x128, .i1⟩
  | .hbm, ⟨36, _⟩ => ⟨S4x128x128, .f32⟩
  | .hbm, ⟨37, _⟩ => ⟨S4x128x128, .f32⟩
  | .hbm, ⟨38, _⟩ => ⟨S4x128x128, .bf16⟩
  | .hbm, ⟨39, _⟩ => ⟨S128x4, .f32⟩
  | .hbm, ⟨40, _⟩ => ⟨S128x4x64, .f32⟩
  | .hbm, ⟨41, _⟩ => ⟨S128x256, .f32⟩
  | .hbm, ⟨42, _⟩ => ⟨S32768x1024, .f32⟩
  | .hbm, ⟨43, _⟩ => ⟨S1024x2304, .bf16⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S32768x512, .bf16⟩
  | .hbm, ⟨48, _⟩ => ⟨S32768x512, .bf16⟩
  | .hbm, ⟨49, _⟩ => ⟨S1x8x8x64x4096, .f32⟩
  | .hbm, ⟨50, _⟩ => ⟨S1x8x8x64x4096, .f32⟩
  | .hbm, ⟨51, _⟩ => ⟨S32768x512, .bf16⟩
  | .hbm, ⟨52, _⟩ => ⟨S8x16x256, .f32⟩
  | .local _ .vmem, ⟨0, _⟩ => ⟨S1024x1024, .f32⟩
  | .local _ .vmem, ⟨1, _⟩ => ⟨S1024x1024, .f32⟩
  | .local _ .vmem, ⟨2, _⟩ => ⟨S1024x2304, .bf16⟩
  | .local _ .vmem, ⟨3, _⟩ => ⟨S256x256, .bf16⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S4x128x128, .bf16⟩
  | .local _ .vmem, ⟨8, _⟩ => ⟨S128x256, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1x1x8x64x1024, .f32⟩
  | .local _ .vmem, ⟨14, _⟩ => ⟨S1x1x8x64x1024, .f32⟩
  | .local _ .vmem, ⟨15, _⟩ => ⟨S1x1x8x64x1024, .f32⟩
  | .local _ .vmem, ⟨16, _⟩ => ⟨S1x1x8x64x1024, .f32⟩
  | .local _ .vmem, ⟨17, _⟩ => ⟨S1024x512, .bf16⟩
  | .local _ .vmem, ⟨18, _⟩ => ⟨S1024x512, .bf16⟩
  | .local _ .vmem, ⟨19, _⟩ => ⟨S1x16x256, .f32⟩
  | .local _ .vmem, ⟨20, _⟩ => ⟨S1x16x256, .f32⟩
  | .local _ .vmem, ⟨21, _⟩ => ⟨S1040x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v14 : Ref sig .tc := ⟨.hbm, 32, rfl⟩
abbrev main_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25_0 : Ref sig .tc := ⟨.hbm, 47, rfl⟩
abbrev main_v25_1 : Ref sig .tc := ⟨.hbm, 48, rfl⟩
abbrev main_v25_2 : Ref sig .tc := ⟨.hbm, 49, rfl⟩
abbrev main_v25_3 : Ref sig .tc := ⟨.hbm, 50, rfl⟩
abbrev main_v25_4 : Ref sig .tc := ⟨.hbm, 51, rfl⟩
abbrev main_v25_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_11 (i : grid0.Coords) : Fin 5 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![c0_i32_10.toNat, v16.toNat, c0_i32_11.toNat, c0_i32_12.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x8x64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x8x64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x16x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference6Ideal.lean ====
abbrev S8x4096x1024 : Shape := ⟨3, ![8, 4096, 1024]⟩
abbrev S1024x2304 : Shape := ⟨2, ![1024, 2304]⟩
abbrev S4x64x64 : Shape := ⟨3, ![4, 64, 64]⟩
abbrev S256 : Shape := ⟨1, ![256]⟩
abbrev S4x128x128 : Shape := ⟨3, ![4, 128, 128]⟩
abbrev S4x128 : Shape := ⟨2, ![4, 128]⟩
abbrev S8x4096x2304 : Shape := ⟨3, ![8, 4096, 2304]⟩
abbrev S8x4096x1536 : Shape := ⟨3, ![8, 4096, 1536]⟩
abbrev S8x4096x512 : Shape := ⟨3, ![8, 4096, 512]⟩
abbrev S_ : Shape := ⟨0, ![]⟩
abbrev S32768x512 : Shape := ⟨2, ![32768, 512]⟩
abbrev S1x8x4096x8x64 : Shape := ⟨5, ![1, 8, 4096, 8, 64]⟩
abbrev S1x8x8x64x4096 : Shape := ⟨5, ![1, 8, 8, 64, 4096]⟩
abbrev S8x16x256 : Shape := ⟨3, ![8, 16, 256]⟩

abbrev nBuf : Space → Nat
  | .hbm => 25
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x2304, .f32⟩
  | .hbm, ⟨2, _⟩ => ⟨S4x64x64, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S4x128x128, .f32⟩
  | .hbm, ⟨7, _⟩ => ⟨S4x128, .f32⟩
  | .hbm, ⟨8, _⟩ => ⟨S8x4096x2304, .f32⟩
  | .hbm, ⟨9, _⟩ => ⟨S8x4096x1536, .f32⟩
  | .hbm, ⟨10, _⟩ => ⟨S8x4096x512, .f32⟩
  | .hbm, ⟨11, _⟩ => ⟨S8x4096x512, .f32⟩
  | .hbm, ⟨12, _⟩ => ⟨S8x4096x512, .f32⟩
  | .hbm, ⟨13, _⟩ => ⟨S_, .f32⟩
  | .hbm, ⟨14, _⟩ => ⟨S8x4096x512, .f32⟩
  | .hbm, ⟨15, _⟩ => ⟨S8x4096x512, .f32⟩
  | .hbm, ⟨16, _⟩ => ⟨S32768x512, .f32⟩
  | .hbm, ⟨17, _⟩ => ⟨S32768x512, .bf16⟩
  | .hbm, ⟨18, _⟩ => ⟨S1x8x4096x8x64, .f32⟩
  | .hbm, ⟨19, _⟩ => ⟨S1x8x8x64x4096, .f32⟩
  | .hbm, ⟨20, _⟩ => ⟨S1x8x4096x8x64, .f32⟩
  | .hbm, ⟨21, _⟩ => ⟨S1x8x8x64x4096, .f32⟩
  | .hbm, ⟨22, _⟩ => ⟨S32768x512, .f32⟩
  | .hbm, ⟨23, _⟩ => ⟨S32768x512, .bf16⟩
  | .hbm, ⟨24, _⟩ => ⟨S8x16x256, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Proof.Values.FfnRow.lean ====
/- One row of the layer's last stage, as a function of extended reals.

   The stage takes a row of attention outputs, projects it, adds the scaled residual row, normalises it, puts it through the
   gated feed-forward network and normalises it again. The kernel computes it for blocks of 512 rows and takes the hidden
   units 256 at a time; the reference computes it for all rows at once. Both are read as the functions of this module. -/
module

public import Idealize.ShloMosaic.Lib.Pointwise

@[expose] public section

set_option maxRecDepth 16384

noncomputable section

namespace Cert.FfnValues

open Idealize.ShloMosaic

/-- The number of columns, 1024, as the programs spell it. -/
abbrev width : EReal := Ideal.ofBits .f32 0x44800000#32

/-- The residual's scale, as the programs spell it. -/
abbrev scale : EReal := Ideal.ofBits .f32 0x3FB504F3#32

/-- The normalisation's small constant, as the programs spell it. -/
abbrev small : EReal := Ideal.ofBits .f32 0x3727C5AC#32

/-- A row's mean. -/
def mean (z : Fin 1024 → EReal) : EReal := Ideal.div (∑ k, z k) width

/-- A row normalised: less its mean, over the root of its variance, times a gain, plus an offset. -/
def normRow (z g b : Fin 1024 → EReal) (j : Fin 1024) : EReal :=
  (z j - mean z) * Ideal.rsqrt (Ideal.div (∑ k, (z k - mean z) * (z k - mean z)) width + small) * g j + b j

/-- A row times a matrix. -/
def rowTimes (n : ℕ) (z : Fin 1024 → EReal) (W : Fin 1024 → Fin n → EReal) (f : Fin n) : EReal := ∑ k, z k * W k f

/-- A gate: `g` times the logistic function of `g`, times `u`. -/
def gated (g u : EReal) : EReal := g * Ideal.div 1 (1 + Ideal.exp (-g)) * u

/-- The feed-forward network of a row. -/
def mlpRow (h : Fin 1024 → EReal) (Wg Wu : Fin 1024 → Fin 2816 → EReal) (Wd : Fin 2816 → Fin 1024 → EReal)
    (j : Fin 1024) : EReal :=
  ∑ f, gated (rowTimes 2816 h Wg f) (rowTimes 2816 h Wu f) * Wd f j

/-- The row after the attention's projection, the residual and the first normalisation. -/
def midRow (o x : Fin 1024 → EReal) (Wo : Fin 1024 → Fin 1024 → EReal) (g b : Fin 1024 → EReal) (j : Fin 1024) : EReal :=
  normRow (fun k => scale * x k + rowTimes 1024 o Wo k) g b j

/-- The whole stage of a row. -/
def outRow (o x : Fin 1024 → EReal) (Wo : Fin 1024 → Fin 1024 → EReal) (g b : Fin 1024 → EReal)
    (Wg Wu : Fin 1024 → Fin 2816 → EReal) (Wd : Fin 2816 → Fin 1024 → EReal) (g' b' : Fin 1024 → EReal)
    (j : Fin 1024) : EReal :=
  normRow (fun k => scale * midRow o x Wo g b k + mlpRow (midRow o x Wo g b) Wg Wu Wd k) g' b' j

/-- The stage of a row depends on its arguments element by element. -/
theorem outRow_congr {o x g b g' b' o₁ x₁ g₁ b₁ g₁' b₁' : Fin 1024 → EReal} {Wo Wo₁ : Fin 1024 → Fin 1024 → EReal}
    {Wg Wu Wg₁ Wu₁ : Fin 1024 → Fin 2816 → EReal} {Wd Wd₁ : Fin 2816 → Fin 1024 → EReal} {j j₁ : Fin 1024}
    (h0 : ∀ k, o k = o₁ k) (h1 : ∀ k, x k = x₁ k) (h2 : ∀ k l, Wo k l = Wo₁ k l) (h3 : ∀ k, g k = g₁ k)
    (h4 : ∀ k, b k = b₁ k) (h5 : ∀ k f, Wg k f = Wg₁ k f) (h6 : ∀ k f, Wu k f = Wu₁ k f)
    (h7 : ∀ f k, Wd f k = Wd₁ f k) (h8 : ∀ k, g' k = g₁' k) (h9 : ∀ k, b' k = b₁' k) (hj : j = j₁) :
    outRow o x Wo g b Wg Wu Wd g' b' j = outRow o₁ x₁ Wo₁ g₁ b₁ Wg₁ Wu₁ Wd₁ g₁' b₁' j₁ := by
  obtain rfl := funext h0
  obtain rfl := funext h1
  obtain rfl := funext fun k => funext (h2 k)
  obtain rfl := funext h3
  obtain rfl := funext h4
  obtain rfl := funext fun k => funext (h5 k)
  obtain rfl := funext fun k => funext (h6 k)
  obtain rfl := funext fun k => funext (h7 k)
  obtain rfl := funext h8
  obtain rfl := funext h9
  rw [hj]

/-- Eleven terms added one after the other are their sum. -/
theorem eleven (s : Fin 11 → EReal) :
    s 0 + s 1 + s 2 + s 3 + s 4 + s 5 + s 6 + s 7 + s 8 + s 9 + s 10 = ∑ c, s c := by
  iterate 10 rw [Fin.sum_univ_castSucc]
  rw [Fin.sum_univ_one]
  rfl

/-- The hidden units taken 256 at a time. -/
theorem hidden_tiles (s : Fin 2816 → EReal) :
    ∑ f, s f = ∑ c : Fin 11, ∑ f : Fin 256, s ⟨c * 256 + f, by omega⟩ := Fin.sum_univ_tiles 11 256 rfl s

/-- The share of 256 hidden units, the ones of tile `c`. -/
def tile (h : Fin 1024 → EReal) (Wg Wu : Fin 1024 → Fin 2816 → EReal) (Wd : Fin 2816 → Fin 1024 → EReal)
    (j : Fin 1024) (c : Fin 11) : EReal :=
  ∑ f : Fin 256, gated (rowTimes 2816 h Wg ⟨c * 256 + f, by omega⟩) (rowTimes 2816 h Wu ⟨c * 256 + f, by omega⟩)
    * Wd ⟨c * 256 + f, by omega⟩ j

/-- The feed-forward network, its hidden units taken 256 at a time. -/
theorem mlp_tiles (h : Fin 1024 → EReal) (Wg Wu : Fin 1024 → Fin 2816 → EReal) (Wd : Fin 2816 → Fin 1024 → EReal)
    (j : Fin 1024) :
    mlpRow h Wg Wu Wd j = tile h Wg Wu Wd j 0 + tile h Wg Wu Wd j 1 + tile h Wg Wu Wd j 2 + tile h Wg Wu Wd j 3
      + tile h Wg Wu Wd j 4 + tile h Wg Wu Wd j 5 + tile h Wg Wu Wd j 6 + tile h Wg Wu Wd j 7 + tile h Wg Wu Wd j 8
      + tile h Wg Wu Wd j 9 + tile h Wg Wu Wd j 10 := by
  rw [eleven (tile h Wg Wu Wd j)]
  exact hidden_tiles _

/-- Zero less a number is its negative. -/
theorem neg_of_sub (x : EReal) : 0 - x = -x := by rw [sub_eq_add_neg, zero_add]

end Cert.FfnValues

end
-- ==== Proof.Values.FfnBlock.lean ====
/- What the last stage's kernel stores for a block of 512 rows.

   The payloads of the body are read at an index; together they are the stage of each row of the block. -/
module

public import proofs.«01_k».proof.Proof.Values.FfnRow
public import proofs.«01_k».proof.Proof.Gen.Kernel2Ideal.Value

@[expose] public section

set_option maxRecDepth 16384

noncomputable section

namespace Cert.FfnValues

open Idealize.ShloMosaic Idealize.ShloMosaic.TcCoe
open Cert.Kernel2Ideal Cert.Kernel2Ideal.Gen

/-- The normalised row after the projection and the residual. -/
theorem pay2_apply (x1 : Vec Ideal S512x1024 .f32) (o : Vec Ideal S512x1024 .bf16) (wo : Vec Ideal S1024x1024 .bf16)
    (g b : Vec Ideal S1x1024 .f32) (r : Fin 512) (j : Fin 1024) :
    k0_pay2 (F := Ideal) x1 o wo g b (ix2 r j)
      = midRow (fun k => o (ix2 r k)) (fun k => x1 (ix2 r k)) (fun k l => wo (ix2 k l)) (fun k => g (ix2 0 k))
          (fun k => b (ix2 0 k)) j := by
  pointwise [k0_pay2, midRow, normRow, mean, rowTimes]

/-- Its copy in the narrow format is the same row. -/
theorem pay3_eq (x1 : Vec Ideal S512x1024 .f32) (o : Vec Ideal S512x1024 .bf16) (wo : Vec Ideal S1024x1024 .bf16)
    (g b : Vec Ideal S1x1024 .f32) (i : S512x1024.Idx) :
    k0_pay3 (F := Ideal) x1 o wo g b i = k0_pay2 (F := Ideal) x1 o wo g b i := by
  pointwise [k0_pay3]

/-- The first slice's gate product. -/
theorem pay5_apply (x1 : Vec Ideal S512x1024 .f32) (o : Vec Ideal S512x1024 .bf16) (wo : Vec Ideal S1024x1024 .bf16)
    (g b : Vec Ideal S1x1024 .f32) (w : Vec Ideal S1024x256 .bf16) (r : Fin 512) (f : Fin 256) :
    k0_pay5 (F := Ideal) x1 o wo g b w (ix2 r f) = ∑ k : Fin 1024, k0_pay3 (F := Ideal) x1 o wo g b (ix2 r k) * w (ix2 k f) := by
  pointwise [k0_pay5]

/-- The last normalisation. -/
theorem pay1_apply (z : FVec Ideal S512x1024 .f32) (g b : FVec Ideal S1x1024 .f32) (s : FVec Ideal S512x1 .f32)
    (r : Fin 512) (j : Fin 1024) (hs : s (ix2 r 0) = ∑ k : Fin 1024, z (ix2 r k)) :
    k0_pay1 (F := Ideal) z g b s (ix2 r j)
      = normRow (fun k => z (ix2 r k)) (fun k => g (ix2 0 k)) (fun k => b (ix2 0 k)) j := by
  pointwise [k0_pay1, normRow, mean, hs]

/-- What the body stores is the stage of each row of its blocks. -/
theorem stored_apply (x0 : Vec Ideal S512x1024 .bf16) (x1 : Vec Ideal S512x1024 .f32) (x2 : Vec Ideal S1024x1024 .bf16)
    (x3 x4 : Vec Ideal S1x1024 .f32) (x5 x6 : Vec Ideal S1024x2816 .bf16) (x7 : Vec Ideal S2816x1024 .bf16)
    (x8 x9 : Vec Ideal S1x1024 .f32) (r : Fin 512) (j : Fin 1024) :
    out0_10 (F := Ideal) x0 x1 x2 x3 x4 x5 x6 x7 x8 x9 (ix2 r j)
      = outRow (fun k => x0 (ix2 r k)) (fun k => x1 (ix2 r k)) (fun k l => x2 (ix2 k l)) (fun k => x3 (ix2 0 k))
          (fun k => x4 (ix2 0 k)) (fun k f => x5 (ix2 k f)) (fun k f => x6 (ix2 k f)) (fun f k => x7 (ix2 f k))
          (fun k => x8 (ix2 0 k)) (fun k => x9 (ix2 0 k)) j := by
  unfold out0_10
  rw [View.canon_unit_zero]
  rw [pay1_apply _ _ _ _ r j (by pointwise [k0_pay21])]
  unfold outRow
  congr 1
  · funext k
    unfold k0_pay27 k0_pay26 k0_pay25 k0_pay24 k0_pay23 k0_pay22
    pointwise [k0_pay18, k0_pay17, k0_pay16, k0_pay15, k0_pay14, k0_pay13, k0_pay12, k0_pay11, k0_pay10, k0_pay9, k0_pay8,
      k0_pay7, k0_pay6, k0_pay4, pay5_apply, pay3_eq, pay2_apply,
      r0_0, r0_1, r0_2, r0_3, r0_4, r0_5, r0_6, r0_7, r0_8, r0_9, r0_10, r0_11, r0_12, r0_13, r0_14, r0_15, r0_16, r0_17,
      r0_18, r0_19, r0_20, r0_21, r0_22, r0_23, r0_24]
    simp only [neg_of_sub]
    generalize midRow _ _ _ _ _ = h
    refine congrArg₂ (· + ·) rfl ?_
    refine Eq.trans ?_ (mlp_tiles h (fun k f => x5 (ix2 k f)) (fun k f => x6 (ix2 k f)) (fun f k => x7 (ix2 f k)) k).symm
    rfl
  · pointwise [k0_pay19, r0_2]
  · pointwise [k0_pay20, r0_2]
  case h => funext a; match a with | ⟨0, _⟩ => rfl | ⟨1, _⟩ => rfl

end Cert.FfnValues

end
-- ==== Proof.Values.FfnKernel.lean ====
/- The last stage's result array after the kernel's run: each row is the stage of that row of the arguments. -/
module

public import proofs.«01_k».proof.Proof.Values.FfnBlock
public import Idealize.ShloMosaic.Lib.Pipeline.ValueKit
public import Idealize.ShloMosaic.Lib.Claim

@[expose] public section

set_option maxRecDepth 16384

noncomputable section

namespace Cert.FfnValues

open Idealize.ShloMosaic Idealize.ShloMosaic.TcCoe Idealize.SL.Sem
open Idealize.ShloMosaic.Pipeline (Dat)
open Cert.Kernel2Ideal Cert.Kernel2Ideal.Gen

/-- The stage of every row, over the arguments' arrays. -/
def G (x0 : FVec Ideal S32768x1024 .bf16) (x1 : FVec Ideal S32768x1024 .f32) (x2 : FVec Ideal S1024x1024 .f32)
    (x3 x4 : FVec Ideal S1024 .f32) (x5 x6 : FVec Ideal S1024x2816 .f32) (x7 : FVec Ideal S2816x1024 .f32)
    (x8 x9 : FVec Ideal S1024 .f32) : FVec Ideal S32768x1024 .f32 := fun i =>
  outRow (fun k => x0 (ix2 (i 0) k)) (fun k => x1 (ix2 (i 0) k)) (fun k l => x2 (ix2 k l)) (fun k => x3 (ix1 k))
    (fun k => x4 (ix1 k)) (fun k f => x5 (ix2 k f)) (fun k f => x6 (ix2 k f)) (fun f k => x7 (ix2 f k))
    (fun k => x8 (ix1 k)) (fun k => x9 (ix1 k)) (i 1)

variable (m : (ℓ : Loc nD τ sig) → Buf (Elt Ideal) ℓ)

/-- The windows' index maps: the rows' windows move with the point, the weights' stay. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- What a window's array holds when the pipeline begins, the narrow copies and the one-row copies being the arguments. -/
theorem entry_v0 (c : Dev nD) (i : S1024x1024.Idx) : (V m c main_v0 : FVec Ideal S1024x1024 .bf16) i = (m ((c : Thread nD τ).loc main_arg2) : FVec Ideal S1024x1024 .f32) i := by
  entry_read; pointwise

theorem entry_v1 (c : Dev nD) (i : S1024x2816.Idx) : (V m c main_v1 : FVec Ideal S1024x2816 .bf16) i = (m ((c : Thread nD τ).loc main_arg5) : FVec Ideal S1024x2816 .f32) i := by
  entry_read; pointwise

theorem entry_v2 (c : Dev nD) (i : S1024x2816.Idx) : (V m c main_v2 : FVec Ideal S1024x2816 .bf16) i = (m ((c : Thread nD τ).loc main_arg6) : FVec Ideal S1024x2816 .f32) i := by
  entry_read; pointwise

theorem entry_v3 (c : Dev nD) (i : S2816x1024.Idx) : (V m c main_v3 : FVec Ideal S2816x1024 .bf16) i = (m ((c : Thread nD τ).loc main_arg7) : FVec Ideal S2816x1024 .f32) i := by
  entry_read; pointwise

theorem entry_v4 (c : Dev nD) (k : Fin 1024) : (V m c main_v4 : FVec Ideal S1x1024 .f32) (ix2 0 k) = (m ((c : Thread nD τ).loc main_arg3) : FVec Ideal S1024 .f32) (ix1 k) := by
  entry_read; pointwise

theorem entry_v5 (c : Dev nD) (k : Fin 1024) : (V m c main_v5 : FVec Ideal S1x1024 .f32) (ix2 0 k) = (m ((c : Thread nD τ).loc main_arg4) : FVec Ideal S1024 .f32) (ix1 k) := by
  entry_read; pointwise

theorem entry_v6 (c : Dev nD) (k : Fin 1024) : (V m c main_v6 : FVec Ideal S1x1024 .f32) (ix2 0 k) = (m ((c : Thread nD τ).loc main_arg8) : FVec Ideal S1024 .f32) (ix1 k) := by
  entry_read; pointwise

theorem entry_v7 (c : Dev nD) (k : Fin 1024) : (V m c main_v7 : FVec Ideal S1x1024 .f32) (ix2 0 k) = (m ((c : Thread nD τ).loc main_arg9) : FVec Ideal S1024 .f32) (ix1 k) := by
  entry_read; pointwise

/-- The result array after the run. -/
theorem final (c : Dev nD) : (dats m 0 c).arrAt 10 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 10 _ (by decide +kernel) fun t _ y => ?_
  blk_simp
  rw [after0_10]
  have hy : y = ix2 (y 0) (y 1) := eq_ix2 (y : S512x1024.Idx)
  refine (congrArg _ hy).trans ?_
  refine (stored_apply _ _ _ _ _ _ _ _ _ _ _ _).trans ?_
  unfold G
  have e0 : ∀ k, iblk m c 0 t (ix2 (y 0) k) = (m ((c : Thread nD τ).loc main_arg0) : FVec Ideal S32768x1024 .bf16)
      (ix2 (((cfg0.win 10).blk t).view.emb y 0) k) := fun k => by blk_ext [iblk, V, idx t]
  have e1 : ∀ k, iblk m c 1 t (ix2 (y 0) k) = (m ((c : Thread nD τ).loc main_arg1) : FVec Ideal S32768x1024 .f32)
      (ix2 (((cfg0.win 10).blk t).view.emb y 0) k) := fun k => by blk_ext [iblk, V, idx t]
  have e2 : ∀ k l, iblk m c 2 t (ix2 k l) = (m ((c : Thread nD τ).loc main_arg2) : FVec Ideal S1024x1024 .f32) (ix2 k l) :=
    fun k l => Eq.trans (b := (V m c main_v0 : FVec Ideal S1024x1024 .bf16) (ix2 k l)) (by blk_ext [iblk, idx t]) (entry_v0 m c (ix2 k l))
  have e5 : ∀ k l, iblk m c 5 t (ix2 k l) = (m ((c : Thread nD τ).loc main_arg5) : FVec Ideal S1024x2816 .f32) (ix2 k l) :=
    fun k l => Eq.trans (b := (V m c main_v1 : FVec Ideal S1024x2816 .bf16) (ix2 k l)) (by blk_ext [iblk, idx t]) (entry_v1 m c (ix2 k l))
  have e6 : ∀ k l, iblk m c 6 t (ix2 k l) = (m ((c : Thread nD τ).loc main_arg6) : FVec Ideal S1024x2816 .f32) (ix2 k l) :=
    fun k l => Eq.trans (b := (V m c main_v2 : FVec Ideal S1024x2816 .bf16) (ix2 k l)) (by blk_ext [iblk, idx t]) (entry_v2 m c (ix2 k l))
  have e7 : ∀ k l, iblk m c 7 t (ix2 k l) = (m ((c : Thread nD τ).loc main_arg7) : FVec Ideal S2816x1024 .f32) (ix2 k l) :=
    fun k l => Eq.trans (b := (V m c main_v3 : FVec Ideal S2816x1024 .bf16) (ix2 k l)) (by blk_ext [iblk, idx t]) (entry_v3 m c (ix2 k l))
  have e3 : ∀ k, iblk m c 3 t (ix2 0 k) = (m ((c : Thread nD τ).loc main_arg3) : FVec Ideal S1024 .f32) (ix1 k) :=
    fun k => Eq.trans (b := (V m c main_v4 : FVec Ideal S1x1024 .f32) (ix2 0 k)) (by blk_ext [iblk, idx t]) (entry_v4 m c k)
  have e4 : ∀ k, iblk m c 4 t (ix2 0 k) = (m ((c : Thread nD τ).loc main_arg4) : FVec Ideal S1024 .f32) (ix1 k) :=
    fun k => Eq.trans (b := (V m c main_v5 : FVec Ideal S1x1024 .f32) (ix2 0 k)) (by blk_ext [iblk, idx t]) (entry_v5 m c k)
  have e8 : ∀ k, iblk m c 8 t (ix2 0 k) = (m ((c : Thread nD τ).loc main_arg8) : FVec Ideal S1024 .f32) (ix1 k) :=
    fun k => Eq.trans (b := (V m c main_v6 : FVec Ideal S1x1024 .f32) (ix2 0 k)) (by blk_ext [iblk, idx t]) (entry_v6 m c k)
  have e9 : ∀ k, iblk m c 9 t (ix2 0 k) = (m ((c : Thread nD τ).loc main_arg9) : FVec Ideal S1024 .f32) (ix1 k) :=
    fun k => Eq.trans (b := (V m c main_v7 : FVec Ideal S1x1024 .f32) (ix2 0 k)) (by blk_ext [iblk, idx t]) (entry_v7 m c k)
  have ej : ((cfg0.win 10).blk t).view.emb y 1 = y 1 := Fin.ext (by blk_simp [idx t])
  exact outRow_congr e0 e1 e2 e3 e4 e5 e6 e7 e8 e9 ej.symm

end Cert.FfnValues

end
-- ==== Proof.Values.FfnReference.lean ====
/- The reference's last stage, read at an index: the stage of the row. -/
module

public import proofs.«01_k».proof.Proof.Values.FfnRow
public import proofs.«01_k».proof.Proof.Gen.Reference2Ideal.Run
public import proofs.«01_k».proof.Proof.Gen.Reference2Ideal.Read

@[expose] public section

set_option maxRecDepth 16384

noncomputable section

namespace Cert.FfnValues

open Idealize.ShloMosaic Idealize.ShloMosaic.TcCoe
open Cert.Reference2Ideal Cert.Reference2Ideal.Gen Cert.Reference2Ideal.Read

variable (x0 : FVec Ideal S32768x1024 .bf16) (x1 : FVec Ideal S32768x1024 .f32) (x2 : FVec Ideal S1024x1024 .f32)
    (x3 x4 : FVec Ideal S1024 .f32) (x5 x6 : FVec Ideal S1024x2816 .f32) (x7 : FVec Ideal S2816x1024 .f32)
    (x8 x9 : FVec Ideal S1024 .f32)

/-- The scaled residual plus the projection. -/
theorem ref_pre (r : Fin 32768) (j : Fin 1024) :
    val_main_v4 (F := Ideal) x0 x1 x2 (ix2 r j)
      = scale * x1 (ix2 r j) + rowTimes 1024 (fun k => x0 (ix2 r k)) (fun k l => x2 (ix2 k l)) j := by
  pointwise [val_main_cst, val_main_v0, val_main_v1, val_main_v2, val_main_v3, val_main_v4, rowTimes]

/-- The first normalisation's row. -/
theorem ref_mid (r : Fin 32768) (j : Fin 1024) :
    val_main_v28 (F := Ideal) x0 x1 x2 x3 x4 (ix2 r j)
      = midRow (fun k => x0 (ix2 r k)) (fun k => x1 (ix2 r k)) (fun k l => x2 (ix2 k l)) (fun k => x3 (ix1 k))
          (fun k => x4 (ix1 k)) j := by
  pointwise [val_main_cst_0, val_main_v5, val_main_v6, val_main_cst_1, val_main_v7, val_main_v8, val_main_v9, val_main_v10,
      val_main_v11, val_main_cst_2, val_main_v12, val_main_v13, val_main_cst_3, val_main_v14, val_main_v15,
      val_main_v16, val_main_v17, val_main_cst_4, val_main_v18, val_main_v19, val_main_v20, val_main_v21, val_main_v22,
      val_main_v23, val_main_v24, val_main_v25, val_main_v26, val_main_v27, val_main_v28,
      ref_pre, midRow, normRow, mean]

/-- The second scaled residual plus the feed-forward network. -/
theorem ref_mlp (r : Fin 32768) (j : Fin 1024) :
    val_main_v36 (F := Ideal) x0 x1 x2 x3 x4 x5 x6 x7 (ix2 r j)
      = scale * midRow (fun k => x0 (ix2 r k)) (fun k => x1 (ix2 r k)) (fun k l => x2 (ix2 k l)) (fun k => x3 (ix1 k))
          (fun k => x4 (ix1 k)) j
        + mlpRow (midRow (fun k => x0 (ix2 r k)) (fun k => x1 (ix2 r k)) (fun k l => x2 (ix2 k l)) (fun k => x3 (ix1 k))
          (fun k => x4 (ix1 k))) (fun k f => x5 (ix2 k f)) (fun k f => x6 (ix2 k f)) (fun f k => x7 (ix2 f k)) j := by
  pointwise [val_main_v29, val_main_call0_v0, val_main_call0_v1, val_main_call0_cst, val_main_call0_v2, val_main_call0_v3,
      val_main_call0_cst_0, val_main_call0_v4, val_main_call0_v5, val_main_v30, val_main_v31, val_main_v32,
      val_main_v33, val_main_cst_5, val_main_v34, val_main_v35, val_main_v36,
      ref_mid, mlpRow, gated, rowTimes]

/-- The reference's result. -/
theorem ref_out (r : Fin 32768) (j : Fin 1024) :
    val_main_v60 (F := Ideal) x0 x1 x2 x3 x4 x5 x6 x7 x8 x9 (ix2 r j)
      = outRow (fun k => x0 (ix2 r k)) (fun k => x1 (ix2 r k)) (fun k l => x2 (ix2 k l)) (fun k => x3 (ix1 k))
          (fun k => x4 (ix1 k)) (fun k f => x5 (ix2 k f)) (fun k f => x6 (ix2 k f)) (fun f k => x7 (ix2 f k))
          (fun k => x8 (ix1 k)) (fun k => x9 (ix1 k)) j := by
  pointwise [val_main_cst_6, val_main_v37, val_main_v38, val_main_cst_7, val_main_v39, val_main_v40, val_main_v41,
      val_main_v42, val_main_v43, val_main_cst_8, val_main_v44, val_main_v45, val_main_cst_9, val_main_v46,
      val_main_v47, val_main_v48, val_main_v49, val_main_cst_10, val_main_v50, val_main_v51, val_main_v52,
      val_main_v53, val_main_v54, val_main_v55, val_main_v56, val_main_v57, val_main_v58, val_main_v59, val_main_v60,
      ref_mlp, outRow, normRow, mean]

end Cert.FfnValues

end
-- ==== Proof.Values.FfnClaim.lean ====
/- The claims about the second half of the block, from the kernel's array and the reference's array. -/
module

public import proofs.«01_k».proof.Defs
public import proofs.«01_k».proof.Proof.Gen.Kernel2.Frame
public import proofs.«01_k».proof.Proof.Gen.Reference2Ideal.Run
public import proofs.«01_k».proof.Proof.Values.FfnKernel
public import proofs.«01_k».proof.Proof.Values.FfnReference
public import Idealize.ShloMosaic.Lib.Claim

@[expose] public section

set_option maxRecDepth 16384

noncomputable section

namespace Cert.FfnValues

open Idealize.ShloMosaic Idealize.ShloMosaic.TcCoe Idealize.SL.Sem

/-- The reference's array is the block's function of its arguments. -/
theorem ref_array (x0 : FVec Ideal Reference2Ideal.S32768x1024 .bf16) (x1 : FVec Ideal Reference2Ideal.S32768x1024 .f32)
    (x2 : FVec Ideal Reference2Ideal.S1024x1024 .f32) (x3 x4 : FVec Ideal Reference2Ideal.S1024 .f32)
    (x5 x6 : FVec Ideal Reference2Ideal.S1024x2816 .f32) (x7 : FVec Ideal Reference2Ideal.S2816x1024 .f32)
    (x8 x9 : FVec Ideal Reference2Ideal.S1024 .f32) :
    Reference2Ideal.Read.val_main_v60 (F := Ideal) x0 x1 x2 x3 x4 x5 x6 x7 x8 x9 = G x0 x1 x2 x3 x4 x5 x6 x7 x8 x9 := by
  funext i
  rw [eq_ix2 i]
  exact ref_out x0 x1 x2 x3 x4 x5 x6 x7 x8 x9 (i 0) (i 1)

theorem frame_bits : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := by
  intro m ρ _
  refine (θ_run _ _ _).mono (fun r h => ⟨fun c => (h c).2, ?_⟩) (Cert.Reference2Ideal.Value.run m ρ)
  funext s
  exact match s with
    | (_, .reg s) => Fin.elim0 s
    | (_, .dma s) => Fin.elim0 s

theorem kernel_same : Cert.preserves_Kernel2_Kernel2Ideal := trivial

theorem algebraic : Cert.algebraic_Kernel2Ideal_Reference2Ideal := by
  pair_intro
  · run_from Cert.Kernel2Ideal.Value.run_blocks m g
  · run_from Cert.Reference2Ideal.Value.run m' g'
    rw [final, Cert.Reference2Ideal.Read.val_main_v60_eq]
    obtain ⟨h0, h1, h2, h3, h4, h5, h6, h7, h8, h9⟩ := hagree c
    rw [h0, h1, h2, h3, h4, h5, h6, h7, h8, h9]
    exact ref_array _ _ _ _ _ _ _ _ _ _

end Cert.FfnValues

end
-- ==== Proof.Values.MemoryRow.lean ====
/- A query's attention over its sequence's memory, one head at a time.

   The kernel adds the weighted values and then divides by the sum of the weights. The reference divides each weight by
   that sum first. The two agree where the scores are finite, since the sum of the weights is then positive. -/
module

public import Idealize.ShloMosaic.Lib.Pointwise

@[expose] public section

set_option maxRecDepth 16384

noncomputable section

namespace Cert.MemoryValues

open Idealize.ShloMosaic

/-- The least value of a maximum, as the programs spell it. -/
abbrev least : EReal := Ideal.ofBits .f32 0xFF800000#32

/-- A query's score with each memory row. -/
def score (q : Fin 256 → EReal) (K : Fin 256 → Fin 256 → EReal) (j : Fin 256) : EReal := ∑ k : Fin 256, q k * K j k

/-- The greatest score. -/
def top (s : Fin 256 → EReal) : EReal := Finset.univ.fold max least s

/-- The weight of a memory row, before the division by their sum. -/
def raw (s : Fin 256 → EReal) (j : Fin 256) : EReal := Ideal.exp (s j - top s)

/-- The weighted values, divided by the sum of the weights. -/
def attend (q : Fin 256 → EReal) (K W : Fin 256 → Fin 256 → EReal) (d : Fin 256) : EReal :=
  Ideal.div (∑ j : Fin 256, raw (score q K) j * W j d) (∑ j : Fin 256, raw (score q K) j)

/-- The values weighted by the divided weights. -/
def attendEach (q : Fin 256 → EReal) (K W : Fin 256 → Fin 256 → EReal) (d : Fin 256) : EReal :=
  ∑ j : Fin 256, W j d * Ideal.div (raw (score q K) j) (∑ j : Fin 256, raw (score q K) j)

theorem attend_congr {q q₁ : Fin 256 → EReal} {K K₁ W W₁ : Fin 256 → Fin 256 → EReal} {d d₁ : Fin 256}
    (h0 : ∀ k, q k = q₁ k) (h1 : ∀ j k, K j k = K₁ j k) (h2 : ∀ j k, W j k = W₁ j k) (hd : d = d₁) :
    attend q K W d = attend q₁ K₁ W₁ d₁ := by
  obtain rfl := funext h0
  obtain rfl := funext fun j => funext (h1 j)
  obtain rfl := funext fun j => funext (h2 j)
  rw [hd]

theorem least_eq : least = ⊥ := by
  unfold least Ideal.ofBits Ideal.ieee
  simp (decide := true)

theorem max_least (x : EReal) : max least x = x := by
  rw [least_eq]
  exact max_eq_right bot_le

theorem fold_eq_top (f s : Fin 256 → EReal) (h : ∀ k, f k = s k) : Finset.univ.fold max least f = top s := by
  obtain rfl := funext h
  rfl

/-- A finite sum of real numbers is a real number. -/
theorem sum_real {n : ℕ} (f : Fin n → EReal) (h : ∀ k, ∃ r : ℝ, f k = (r : EReal)) : ∃ r : ℝ, ∑ k, f k = (r : EReal) := by
  choose g hg using h
  refine ⟨∑ k, g k, ?_⟩
  rw [Finset.sum_congr rfl fun k _ => hg k]
  exact (map_sum (⟨⟨Real.toEReal, rfl⟩, EReal.coe_add⟩ : ℝ →+ EReal) g Finset.univ).symm

/-- The greatest of 256 real scores is a real number. -/
theorem top_real (s : Fin 256 → EReal) (h : ∀ j, ∃ r : ℝ, s j = (r : EReal)) : ∃ r : ℝ, top s = (r : EReal) := by
  have e : ∀ t : Finset (Fin 256), t.fold max least s = ⊥ ∨ ∃ r : ℝ, t.fold max least s = (r : EReal) := by
    intro t
    induction t using Finset.induction_on with
    | empty => exact Or.inl (by rw [Finset.fold_empty, least_eq])
    | insert a t ha ih =>
      rw [Finset.fold_insert ha]
      obtain ⟨r, hr⟩ := h a
      refine Or.inr ?_
      rcases ih with ih | ⟨u, hu⟩
      · exact ⟨r, by rw [ih, hr, max_eq_left bot_le]⟩
      · rcases max_choice (s a) (t.fold max least s) with c | c
        · exact ⟨r, c.trans hr⟩
        · exact ⟨u, c.trans hu⟩
  rcases e Finset.univ with e | e
  · exfalso
    obtain ⟨r, hr⟩ := h 0
    have hle : s 0 ≤ Finset.univ.fold max least s := (Finset.le_fold_max _).2 (Or.inr ⟨0, Finset.mem_univ _, le_rfl⟩)
    rw [e, hr] at hle
    exact absurd (le_bot_iff.1 hle) (EReal.coe_ne_bot r)
  · exact e

/-- With real scores every weight is a positive real number. -/
theorem raw_real (s : Fin 256 → EReal) (h : ∀ j, ∃ r : ℝ, s j = (r : EReal)) (j : Fin 256) :
    ∃ r : ℝ, 0 < r ∧ raw s j = (r : EReal) := by
  obtain ⟨t, ht⟩ := top_real s h
  obtain ⟨r, hr⟩ := h j
  refine ⟨Real.exp (r - t), Real.exp_pos _, ?_⟩
  unfold raw
  rw [ht, hr, ← EReal.coe_sub]
  rfl

/-- A real number that is not negative, times a sum. -/
theorem sum_mul_real {n : ℕ} (f : Fin n → EReal) (r : ℝ) (hr : 0 ≤ r) : (∑ k, f k) * (r : EReal) = ∑ k, f k * (r : EReal) := by
  have e : ∀ t : Finset (Fin n), (∑ k ∈ t, f k) * (r : EReal) = ∑ k ∈ t, f k * (r : EReal) := by
    intro t
    induction t using Finset.induction_on with
    | empty => rw [Finset.sum_empty, Finset.sum_empty, zero_mul]
    | insert a t ha ih =>
      rw [Finset.sum_insert ha, Finset.sum_insert ha,
        EReal.right_distrib_of_nonneg_of_ne_top (EReal.coe_nonneg.2 hr) (EReal.coe_ne_top r), ih]
  exact e _

/-- The two ways of dividing agree where the scores are finite. -/
theorem attend_eq (q : Fin 256 → EReal) (K W : Fin 256 → Fin 256 → EReal) (d : Fin 256)
    (h : ∀ j, ∃ r : ℝ, score q K j = (r : EReal)) : attendEach q K W d = attend q K W d := by
  have hr := raw_real _ h
  choose p hp using hr
  have hs : ∑ j : Fin 256, raw (score q K) j = ((∑ j : Fin 256, p j : ℝ) : EReal) := by
    rw [Finset.sum_congr rfl fun j _ => (hp j).2]
    exact (map_sum (⟨⟨Real.toEReal, rfl⟩, EReal.coe_add⟩ : ℝ →+ EReal) p Finset.univ).symm
  have hpos : 0 < ∑ j : Fin 256, p j := Finset.sum_pos (fun j _ => (hp j).1) Finset.univ_nonempty
  have hne : ((∑ j : Fin 256, p j : ℝ) : EReal) ≠ 0 := fun e => hpos.ne' (EReal.coe_eq_zero.1 e)
  unfold attendEach attend
  rw [hs]
  simp only [Ideal.div, if_neg hne]
  rw [← EReal.coe_inv, sum_mul_real _ _ (inv_nonneg.2 hpos.le)]
  refine Finset.sum_congr rfl fun j _ => ?_
  rw [← mul_assoc, mul_comm (W j d)]

end Cert.MemoryValues

end
-- ==== Proof.Values.MemoryBlock.lean ====
/- What the memory attention's kernel stores for a block of 512 queries: each head's columns hold the head's attention. -/
module

public import proofs.«01_k».proof.Proof.Values.MemoryRow
public import proofs.«01_k».proof.Proof.Gen.Kernel3Ideal.Value
public import Idealize.ShloMosaic.Lib.Pipeline.ValueKit

@[expose] public section

set_option maxRecDepth 16384

noncomputable section

namespace Cert.MemoryValues

open Idealize.ShloMosaic Idealize.ShloMosaic.TcCoe
open Cert.Kernel3Ideal Cert.Kernel3Ideal.Gen

/-- One head's attention of a block, from the head's columns; each of the four stores computes it. -/
theorem head0_apply (q : Vec Ideal S512x256 .bf16) (K W : Vec Ideal S1x256x256 .f32) (r : Fin 512) (d : Fin 256) :
    k0_pay2 (F := Ideal) q K W (ix2 r d)
      = attend (fun k => q (ix2 r k)) (fun j k => K (ix3 0 j k)) (fun j k => W (ix3 0 j k)) d := by
  pointwise [k0_pay2, attend, raw, top, score]

theorem head1_apply (q : Vec Ideal S512x256 .bf16) (K W : Vec Ideal S1x256x256 .f32) (r : Fin 512) (d : Fin 256) :
    k0_pay6 (F := Ideal) (k0_pay4 q K) (k0_pay5 q K) W (ix2 r d)
      = attend (fun k => q (ix2 r k)) (fun j k => K (ix3 0 j k)) (fun j k => W (ix3 0 j k)) d := by
  pointwise [k0_pay6, k0_pay5, k0_pay4, k0_pay3, attend, raw, top, score]

theorem head2_apply (q : Vec Ideal S512x256 .bf16) (K W : Vec Ideal S1x256x256 .f32) (r : Fin 512) (d : Fin 256) :
    k0_pay7 (F := Ideal) q K W (ix2 r d)
      = attend (fun k => q (ix2 r k)) (fun j k => K (ix3 0 j k)) (fun j k => W (ix3 0 j k)) d := by
  pointwise [k0_pay7, attend, raw, top, score]

theorem head3_apply (q : Vec Ideal S512x256 .bf16) (K W : Vec Ideal S1x256x256 .f32) (r : Fin 512) (d : Fin 256) :
    k0_pay1 (F := Ideal) q (k0_pay8 K) (constant S512x256 .f32 0x00000000#32) W (ix2 r d)
      = attend (fun k => q (ix2 r k)) (fun j k => K (ix3 0 j k)) (fun j k => W (ix3 0 j k)) d := by
  pointwise [k0_pay1, k0_pay8, attend, raw, top, score]

/-- Column `k` of the head that holds column `n`. -/
abbrev inHead (n : Fin 1024) (k : Fin 256) : Fin 1024 := ⟨n.val / 256 * 256 + k.val, by omega⟩

/-- A column's place in its head. -/
abbrev place (n : Fin 1024) : Fin 256 := ⟨n.val % 256, Nat.mod_lt _ (by decide)⟩

/-- What the body stores: at each column, the attention of the column's head. -/
theorem stored_apply (q : Vec Ideal S512x1024 .bf16) (K W : Vec Ideal S1x256x1024 .f32) (y : S512x1024.Idx) :
    out0_3 (F := Ideal) q K W y
      = attend (fun k => q (ix2 (y 0) (inHead (y 1) k))) (fun j k => K (ix3 0 j (inHead (y 1) k)))
          (fun j k => W (ix3 0 j (inHead (y 1) k))) (place (y 1)) := by
  unfold out0_3
  canon_tiles x h
  all_goals
    refine (congrArg _ (eq_ix2 x)).trans ?_
    first
      | refine (head0_apply _ _ _ _ _).trans ?_
      | refine (head1_apply _ _ _ _ _).trans ?_
      | refine (head2_apply _ _ _ _ _).trans ?_
      | refine (head3_apply _ _ _ _ _).trans ?_
    refine attend_congr (fun k => ?_) (fun j k => ?_) (fun j k => ?_) (Fin.ext (by simp only [place]; omega))
    all_goals (pointwise [r0_0, r0_1, r0_2, r0_3, r0_4, r0_5, r0_6, r0_7]; try blk_point [])

end Cert.MemoryValues

end
-- ==== Proof.Values.MemoryKernel.lean ====
/- The memory attention's result array after the kernel's run. -/
module

public import proofs.«01_k».proof.Proof.Values.MemoryBlock
public import Idealize.ShloMosaic.Lib.Claim

@[expose] public section

set_option maxRecDepth 16384

noncomputable section

namespace Cert.MemoryValues

open Idealize.ShloMosaic Idealize.ShloMosaic.TcCoe Idealize.SL.Sem
open Idealize.ShloMosaic.Pipeline (Dat)
open Cert.Kernel3Ideal Cert.Kernel3Ideal.Gen

/-- The attention of row `r` at column `n`: the row's sequence gives the memory rows, the column gives the head. -/
def entry (x0 : FVec Ideal S32768x1024 .bf16) (x1 : FVec Ideal S4x2048x1024 .f32) (r : Fin 32768) (n : Fin 1024) : EReal :=
  attend (fun k => x0 (ix2 r (inHead n k))) (fun j k => x1 (ix3 0 ⟨r.val / 4096 * 256 + j.val, by omega⟩ (inHead n k)))
    (fun j k => x1 (ix3 2 ⟨r.val / 4096 * 256 + j.val, by omega⟩ (inHead n k))) (place n)

/-- The array of all of them. -/
def G (x0 : FVec Ideal S32768x1024 .bf16) (x1 : FVec Ideal S4x2048x1024 .f32) : FVec Ideal S32768x1024 .bf16 := fun i =>
  entry x0 x1 (i 0) (i 1)

variable (m : (ℓ : Loc nD τ sig) → Buf (Elt Ideal) ℓ)

/-- The windows' index maps: a point is a tile of query rows; eight points in a row read one sequence's memory. -/
theorem idx : ∀ t : Fin cfg0.N, win0_0.index t = ![t.val, 0] ∧ win0_1.index t = ![0, t.val / 8, 0]
    ∧ win0_2.index t = ![2, t.val / 8, 0] ∧ win0_3.index t = ![t.val, 0] :=
  (by decide +kernel : ∀ t : Fin grid0.N, _)

/-- The result array after the run. -/
theorem final (c : Dev nD) : (dats m 0 c).arrAt 3 cfg0.N
    = G (m ((c : Thread nD τ).loc main_arg0)) (m ((c : Thread nD τ).loc main_arg1)) := by
  refine (dats m 0 c).arrAt_eq_of_covers 3 _ (by decide +kernel) fun t _ y => ?_
  blk_simp
  rw [after0_3]
  have hN : t.val < 64 := t.isLt
  have h0 : (y 0).val < 512 := (y 0).isLt
  refine (stored_apply _ _ _ y).trans ?_
  unfold G
  have er : ((cfg0.win 3).blk t).view.emb y 0 = (⟨t.val * 512 + (y 0).val, by omega⟩ : Fin 32768) := Fin.ext (by blk_simp [idx t])
  have en : ((cfg0.win 3).blk t).view.emb y 1 = y 1 := Fin.ext (by blk_simp [idx t])
  rw [er, en]
  unfold entry
  refine attend_congr (fun k => ?_) (fun j k => ?_) (fun j k => ?_) rfl
  all_goals blk_ext [iblk, V, idx t]

end Cert.MemoryValues

end
-- ==== Proof.Values.MemoryReference.lean ====
/- The reference's attention over the memory, read at an index. -/
module

public import proofs.«01_k».proof.Proof.Values.MemoryRow
public import proofs.«01_k».proof.Proof.Gen.Reference3Ideal.Read

@[expose] public section

set_option maxRecDepth 16384

noncomputable section

namespace Cert.MemoryValues

open Idealize.ShloMosaic Idealize.ShloMosaic.TcCoe
open Cert.Reference3Ideal Cert.Reference3Ideal.Gen Cert.Reference3Ideal.Read

variable (x0 : FVec Ideal S32768x1024 .bf16) (x1 : FVec Ideal S4x2048x1024 .f32)

/-- The queries of sequence `b`, position `s`, head `h`, in the rows' array. -/
theorem ref_q (b : Fin 8) (s : Fin 4096) (h : Fin 4) (k : Fin 256) : val_main_v1 (F := Ideal) x0 (ix4 b s h k)
    = x0 (ix2 ⟨b.val * 4096 + s.val, by omega⟩ ⟨h.val * 256 + k.val, by omega⟩) := by
  pointwise [val_main_v0, val_main_v1]

/-- The memory's keys of sequence `b`, row `j`, head `h`. -/
theorem ref_k (b : Fin 8) (j : Fin 256) (h : Fin 4) (k : Fin 256) : val_main_v4 (F := Ideal) x1 (ix4 b j h k)
    = x1 (ix3 0 ⟨b.val * 256 + j.val, by omega⟩ ⟨h.val * 256 + k.val, by omega⟩) := by
  pointwise [val_main_v2, val_main_v3, val_main_v4]

/-- The memory's values of sequence `b`, row `j`, head `h`. -/
theorem ref_v (b : Fin 8) (j : Fin 256) (h : Fin 4) (k : Fin 256) : val_main_v7 (F := Ideal) x1 (ix4 b j h k)
    = x1 (ix3 2 ⟨b.val * 256 + j.val, by omega⟩ ⟨h.val * 256 + k.val, by omega⟩) := by
  pointwise [val_main_v5, val_main_v6, val_main_v7]

/-- A head's queries, keys and values of one position. -/
abbrev rq (b : Fin 8) (s : Fin 4096) (h : Fin 4) (k : Fin 256) : EReal :=
  x0 (ix2 ⟨b.val * 4096 + s.val, by omega⟩ ⟨h.val * 256 + k.val, by omega⟩)
abbrev rk (d : Fin 4) (b : Fin 8) (h : Fin 4) (j k : Fin 256) : EReal :=
  x1 (ix3 d ⟨b.val * 256 + j.val, by omega⟩ ⟨h.val * 256 + k.val, by omega⟩)

theorem ref_score (b : Fin 8) (h : Fin 4) (s : Fin 4096) (j : Fin 256) : val_main_v8 (F := Ideal) x0 x1 (ix4 b h s j)
    = score (rq x0 b s h) (rk x1 0 b h) j := by
  pointwise [val_main_v8, ref_q, ref_k, score]

theorem ref_fold (b : Fin 8) (h : Fin 4) (s : Fin 4096) : val_main_v9 (F := Ideal) x0 x1 (ix3 b h s)
    = Finset.univ.fold max least fun k : Fin 256 => val_main_v8 (F := Ideal) x0 x1 (ix4 b h s k) := by
  pointwise [val_main_cst, val_main_v9]

theorem ref_least (i : S8x4x4096.Idx) : val_main_v10 (F := Ideal) i = least := by
  pointwise [val_main_cst_0, val_main_v10]

theorem ref_top (b : Fin 8) (h : Fin 4) (s : Fin 4096) : val_main_v11 (F := Ideal) x0 x1 (ix3 b h s)
    = top (score (rq x0 b s h) (rk x1 0 b h)) := by
  have e : ∀ (u : EReal), u = top (score (rq x0 b s h) (rk x1 0 b h)) →
      (FloatOps.maximumf (F := Ideal) (φ := .f32) least u : EReal) = top (score (rq x0 b s h) (rk x1 0 b h)) :=
    fun u hu => (max_least u).trans hu
  rw [val_main_v11_apply, ref_least]
  exact e _ ((ref_fold x0 x1 b h s).trans (fold_eq_top _ _ fun k => ref_score x0 x1 b h s k))

theorem ref_raw (b : Fin 8) (h : Fin 4) (s : Fin 4096) (j : Fin 256) : val_main_v15 (F := Ideal) x0 x1 (ix4 b h s j)
    = raw (score (rq x0 b s h) (rk x1 0 b h)) j := by
  pointwise [val_main_v12, val_main_v13, val_main_v14, val_main_v15, ref_top, ref_score, raw]

theorem ref_heads (b : Fin 8) (s : Fin 4096) (h : Fin 4) (d : Fin 256) : val_main_v21 (F := Ideal) x0 x1 (ix4 b s h d)
    = attendEach (rq x0 b s h) (rk x1 0 b h) (rk x1 2 b h) d := by
  pointwise [val_main_cst_1, val_main_v16, val_main_v17, val_main_v18, val_main_v19, val_main_v20, val_main_v21, ref_raw, ref_v,
    attendEach]

theorem ref_out (r : Fin 32768) (n : Fin 1024) : val_main_v23 (F := Ideal) x0 x1 (ix2 r n)
    = val_main_v21 (F := Ideal) x0 x1 (ix4 ⟨r.val / 4096, by omega⟩ ⟨r.val % 4096, Nat.mod_lt _ (by decide)⟩ ⟨n.val / 256, by omega⟩
        ⟨n.val % 256, Nat.mod_lt _ (by decide)⟩) := by
  pointwise [val_main_v22, val_main_v23]

end Cert.MemoryValues

end
-- ==== Proof.Values.MemoryClaim.lean ====
/- The claims about the attention over the memory, from the kernel's array and the reference's array. -/
module

public import proofs.«01_k».proof.Defs
public import proofs.«01_k».proof.Proof.Gen.Pre_finite_scores
public import Idealize.ShloMosaic.Lib.WordCmp
public import proofs.«01_k».proof.Proof.Gen.Kernel3.Frame
public import proofs.«01_k».proof.Proof.Gen.Reference3Ideal.Run
public import proofs.«01_k».proof.Proof.Values.MemoryKernel
public import proofs.«01_k».proof.Proof.Values.MemoryReference

@[expose] public section

set_option maxRecDepth 16384

noncomputable section

namespace Cert.MemoryValues

open Idealize.ShloMosaic Idealize.ShloMosaic.TcCoe Idealize.SL.Sem

/-- The infinities as the precondition spells them. -/
theorem narrow_inf : Ideal.ofBits .bf16 0x7F80#16 = ⊤ := by
  unfold Ideal.ofBits Ideal.ieee
  simp (decide := true)

theorem wide_inf : Ideal.ofBits .f32 0x7F800000#32 = ⊤ := by
  unfold Ideal.ofBits Ideal.ieee
  simp (decide := true)

/-- An extended real whose absolute value is less than the infinity is a real number. -/
theorem real_of_abs (φ : FTy) (x : Ideal φ) (h : (FloatOps.absf x : EReal) < ⊤) : ∃ r : ℝ, x = (r : EReal) := by
  have h' : max x (-x) < ⊤ := h
  induction x using EReal.rec with
  | coe r => exact ⟨r, rfl⟩
  | bot => exact absurd h' (by simp)
  | top => exact absurd h' (by simp)

/-- What the precondition says at an index: a query's entry and a memory key's entry are real numbers. -/
theorem pre_at (x0 : FVec Ideal Kernel3Ideal.S32768x1024 .bf16) (x1 : FVec Ideal Kernel3Ideal.S4x2048x1024 .f32)
    (h : Cert.Pre_finite_scores.fn (F := Ideal) x0 x1 = fun _ => 1#1) (a : Fin 16) (s : Fin 2048) (k : Fin 1024) :
    (∃ r : ℝ, x0 (ix2 ⟨a.val * 2048 + s.val, by omega⟩ k) = (r : EReal)) ∧ ∃ r : ℝ, x1 (ix3 0 s k) = (r : EReal) := by
  have e : Cert.Pre_finite_scores.fn (F := Ideal) x0 x1 (ix3 a s k)
      = IntOp.andi
          (BitVec.ofBool (decide ((FloatOps.absf (F := Ideal) (φ := .bf16) (x0 (ix2 ⟨a.val * 2048 + s.val, by omega⟩ k)) : EReal)
            < Ideal.ofBits .bf16 0x7F80#16)))
          (BitVec.ofBool (decide ((FloatOps.absf (F := Ideal) (φ := .f32) (x1 (ix3 0 s k)) : EReal)
            < Ideal.ofBits .f32 0x7F800000#32))) := by
    pointwise [Cert.Pre_finite_scores.fn]
  have h1 := e.symm.trans (congrFun h (ix3 a s k))
  rw [narrow_inf, wide_inf, WordCmp.andi_ofBool, WordCmp.ofBool_eq_one_iff, Bool.and_eq_true, decide_eq_true_eq, decide_eq_true_eq] at h1
  exact ⟨real_of_abs _ _ h1.1, real_of_abs _ _ h1.2⟩

/-- Under the precondition every score is a real number. -/
theorem score_real (x0 : FVec Ideal Kernel3Ideal.S32768x1024 .bf16) (x1 : FVec Ideal Kernel3Ideal.S4x2048x1024 .f32)
    (h : Cert.Pre_finite_scores.fn (F := Ideal) x0 x1 = fun _ => 1#1) (r : Fin 32768) (f : Fin 256 → Fin 1024)
    (g : Fin 256 → Fin 2048) (j : Fin 256) :
    ∃ u : ℝ, score (fun k => x0 (ix2 r (f k))) (fun j k => x1 (ix3 0 (g j) (f k))) j = (u : EReal) := by
  refine sum_real _ fun k => ?_
  obtain ⟨⟨u, hu⟩, -⟩ := pre_at x0 x1 h ⟨r.val / 2048, by omega⟩ ⟨r.val % 2048, Nat.mod_lt _ (by decide)⟩ (f k)
  obtain ⟨-, w, hw⟩ := pre_at x0 x1 h 0 (g j) (f k)
  have er : (⟨r.val / 2048 * 2048 + r.val % 2048, by omega⟩ : Fin 32768) = r := Fin.ext (by show r.val / 2048 * 2048 + r.val % 2048 = r.val; omega)
  rw [er] at hu
  exact ⟨u * w, by show x0 (ix2 r (f k)) * x1 (ix3 0 (g j) (f k)) = _; rw [hu, hw, EReal.coe_mul]⟩

/-- Under the precondition the reference's array is the function of its arguments. -/
theorem ref_array (x0 : FVec Ideal Kernel3Ideal.S32768x1024 .bf16) (x1 : FVec Ideal Kernel3Ideal.S4x2048x1024 .f32)
    (h : Cert.Pre_finite_scores.fn (F := Ideal) x0 x1 = fun _ => 1#1) :
    Reference3Ideal.Read.val_main_v23 (F := Ideal) x0 x1 = G x0 x1 := by
  funext i
  rw [eq_ix2 i]
  generalize hr : i 0 = r
  generalize hn : i 1 = n
  have r_lt : r.val < 32768 := r.isLt
  have n_lt : n.val < 1024 := n.isLt
  refine (ref_out x0 x1 r n).trans ((ref_heads x0 x1 _ _ _ _).trans ((attend_eq _ _ _ _ fun j => score_real x0 x1 h _ _ _ j).trans ?_))
  refine attend_congr (fun k => ?_) (fun j k => rfl) (fun j k => rfl) rfl
  refine congrArg (fun a => x0 (ix2 a _)) (Fin.ext ?_)
  show r.val / 4096 * 4096 + r.val % 4096 = r.val
  omega

theorem frame_bits : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := by
  intro m ρ _
  refine (θ_run _ _ _).mono (fun r h => ⟨fun c => (h c).2, ?_⟩) (Cert.Reference3Ideal.Value.run m ρ)
  funext s
  exact match s with
    | (_, .reg s) => Fin.elim0 s
    | (_, .dma s) => Fin.elim0 s

theorem frame_ideal_finite : Cert.quiescent_Kernel3Ideal_pre_finite_scores := fun m ρ _ => Cert.Kernel3Ideal.Gen.frame m ρ

theorem frame_reference_finite : Cert.quiescent_Reference3Ideal_pre_finite_scores := fun m ρ _ => frame_reference m ρ trivial

theorem kernel_same : Cert.preserves_Kernel3_Kernel3Ideal := trivial

theorem algebraic : Cert.algebraic_Kernel3Ideal_Reference3Ideal_pre_finite_scores := by
  pair_intro
  · run_from Cert.Kernel3Ideal.Value.run_blocks m g
  · run_from Cert.Reference3Ideal.Value.run m' g'
    rw [final, Cert.Reference3Ideal.Read.val_main_v23_eq]
    exact ref_array _ _ (hpre c)

end Cert.MemoryValues

end
-- ==== Proof.Values.MemKernel.lean ====
/- The memory's keys and values, an entry at a time, and what its kernel stores for one weight and 512 memory rows.

   Each memory row is multiplied by each layer's key weight and each layer's value weight. -/
module

public import proofs.«01_k».proof.Proof.Gen.Kernel4Ideal.Value
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

namespace Cert.MemValues

open Idealize.ShloMosaic Idealize.ShloMosaic.TcCoe Idealize.SL.Sem
open Idealize.ShloMosaic.Pipeline (Dat)

/-- The four weights in their order: the key weights of both layers, then the value weights. -/
def weight {α : Type} (xk xv : Fin 2 → α) (j : Fin 4) : α :=
  if h : j.val < 2 then xk ⟨j.val, h⟩ else xv ⟨j.val - 2, by omega⟩

/-- A memory row times a weight. -/
def cell (row : Fin 1024 → EReal) (W : Fin 1024 → Fin 1024 → EReal) (n : Fin 1024) : EReal := ∑ k : Fin 1024, row k * W k n

theorem cell_congr {row row₁ : Fin 1024 → EReal} {W W₁ : Fin 1024 → Fin 1024 → EReal} {n n₁ : Fin 1024}
    (h0 : ∀ k, row k = row₁ k) (h1 : ∀ k l, W k l = W₁ k l) (hn : n = n₁) : cell row W n = cell row₁ W₁ n₁ := by
  obtain rfl := funext h0
  obtain rfl := funext fun k => funext (h1 k)
  rw [hn]

section Kernel

open Cert.Kernel4Ideal Cert.Kernel4Ideal.Gen

/-- The memory's keys and values, over the arguments' arrays: weight `j`, memory row `s` of all, column `n`. -/
def entry (x0 : FVec Ideal S8x256x1024 .f32) (x1 x2 : FVec Ideal S2x1024x1024 .f32) (j : Fin 4) (s : Fin 2048) (n : Fin 1024) :
    EReal :=
  cell (fun k => x0 (ix3 ⟨s.val / 256, by omega⟩ ⟨s.val % 256, Nat.mod_lt _ (by decide)⟩ k))
    (fun k l => weight (fun d => x1 (ix3 d k l)) (fun d => x2 (ix3 d k l)) j) n

/-- The array of all of them. -/
def G (x0 : FVec Ideal S8x256x1024 .f32) (x1 x2 : FVec Ideal S2x1024x1024 .f32) : FVec Ideal S4x2048x1024 .f32 := fun i =>
  entry x0 x1 x2 (i 0) (i 1) (i 2)

/-- What the body stores. -/
theorem stored_apply (x0 : Vec Ideal S512x1024 .f32) (x1 : Vec Ideal S1x1024x1024 .bf16) (r : Fin 512) (n : Fin 1024) :
    out0_2 (F := Ideal) x0 x1 (ix3 0 r n) = cell (fun k => x0 (ix2 r k)) (fun k l => x1 (ix3 0 k l)) n := by
  unfold out0_2
  rw [View.canon_unit_zero]
  · pointwise [k0_pay1, cell, r0_0, r0_1]
  case h => funext a; match a with | ⟨0, _⟩ => rfl | ⟨1, _⟩ => rfl | ⟨2, _⟩ => rfl

variable (m : (ℓ : Loc nD τ sig) → Buf (Elt Ideal) ℓ)

/-- The windows' index maps: a point is a weight and a tile of memory rows. -/
theorem idx : ∀ t : Fin cfg0.N, win0_0.index t = ![t.val % 4, 0] ∧ win0_1.index t = ![t.val / 4, 0, 0]
    ∧ win0_2.index t = ![t.val / 4, t.val % 4, 0] :=
  (by decide +kernel : ∀ t : Fin grid0.N, _)

/-- The memory's rows when the pipeline begins. -/
theorem entry_rows (c : Dev nD) (r : Fin 2048) (k : Fin 1024) : (V m c main_v2 : FVec Ideal S2048x1024 .f32) (ix2 r k)
    = (m ((c : Thread nD τ).loc main_arg0) : FVec Ideal S8x256x1024 .f32) (ix3 ⟨r.val / 256, by omega⟩ ⟨r.val % 256, Nat.mod_lt _ (by decide)⟩ k) := by
  entry_read; pointwise

/-- The weights when the pipeline begins. -/
theorem entry_weights (c : Dev nD) (j : Fin 4) (k l : Fin 1024) : (V m c main_v1 : FVec Ideal S4x1024x1024 .bf16) (ix3 j k l)
    = weight (fun d => (m ((c : Thread nD τ).loc main_arg1) : FVec Ideal S2x1024x1024 .f32) (ix3 d k l))
        (fun d => (m ((c : Thread nD τ).loc main_arg2) : FVec Ideal S2x1024x1024 .f32) (ix3 d k l)) j := by
  entry_read; pointwise [weight]

/-- The result array after the run. -/
theorem final (c : Dev nD) : (dats m 0 c).arrAt 2 cfg0.N
    = G (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]
  have hN : t.val < 16 := t.isLt
  have hz : ∀ a : Fin 1, a = 0 := fun a => Subsingleton.elim a 0
  have h1 : (y 1).val < 512 := (y 1).isLt
  have hy : y = ix3 0 (y 1) (y 2) := (eq_ix3 (y : S1x512x1024.Idx)).trans (congrArg (fun a : Fin 1 => ix3 a (y 1) (y 2)) (hz (y 0)))
  refine (congrArg _ hy).trans ?_
  refine (stored_apply _ _ _ _).trans ?_
  unfold G
  have ei : ((cfg0.win 2).blk t).view.emb y 0 = (⟨t.val / 4, by omega⟩ : Fin 4) := Fin.ext (by blk_simp [idx t])
  have er : ((cfg0.win 2).blk t).view.emb y 1 = (⟨t.val % 4 * 512 + (y 1).val, by omega⟩ : Fin 2048) := Fin.ext (by blk_simp [idx t])
  have en : ((cfg0.win 2).blk t).view.emb y 2 = y 2 := Fin.ext (by blk_simp [idx t])
  rw [ei, er, en]
  unfold entry
  refine cell_congr (fun k => ?_) (fun k l => ?_) rfl
  · exact Eq.trans (b := (V m c main_v2 : FVec Ideal S2048x1024 .f32) (ix2 ⟨t.val % 4 * 512 + (y 1).val, by omega⟩ k))
      (by blk_ext [iblk, idx t]) (entry_rows m c _ k)
  · exact Eq.trans (b := (V m c main_v1 : FVec Ideal S4x1024x1024 .bf16) (ix3 ⟨t.val / 4, by omega⟩ k l))
      (by blk_ext [iblk, idx t]) (entry_weights m c _ k l)

end Kernel

end Cert.MemValues

end
-- ==== Proof.Values.MemClaim.lean ====
/- The reference's keys and values of the memory, read at an index, and the claims about them. -/
module

public import proofs.«01_k».proof.Defs
public import proofs.«01_k».proof.Proof.Gen.Kernel4.Frame
public import proofs.«01_k».proof.Proof.Gen.Reference4Ideal.Run
public import proofs.«01_k».proof.Proof.Values.MemKernel

@[expose] public section

set_option maxRecDepth 16384

noncomputable section

namespace Cert.MemValues

open Idealize.ShloMosaic Idealize.ShloMosaic.TcCoe Idealize.SL.Sem

section Reference

open Cert.Reference4Ideal Cert.Reference4Ideal.Gen Cert.Reference4Ideal.Read

variable (x0 : FVec Ideal S8x256x1024 .f32) (x1 x2 : FVec Ideal S2x1024x1024 .f32)

/-- The four products, before they are put in their order. -/
theorem ref_key0 (b : Fin 8) (r : Fin 256) (n : Fin 1024) : val_main_v2 (F := Ideal) x0 x1 (ix3 b r n)
    = cell (fun k => x0 (ix3 b r k)) (fun k l => x1 (ix3 0 k l)) n := by
  pointwise [val_main_v0, val_main_v1, val_main_v2, cell]

theorem ref_key1 (b : Fin 8) (r : Fin 256) (n : Fin 1024) : val_main_v5 (F := Ideal) x0 x1 (ix3 b r n)
    = cell (fun k => x0 (ix3 b r k)) (fun k l => x1 (ix3 1 k l)) n := by
  pointwise [val_main_v3, val_main_v4, val_main_v5, cell]

theorem ref_value0 (b : Fin 8) (r : Fin 256) (n : Fin 1024) : val_main_v11 (F := Ideal) x0 x2 (ix3 b r n)
    = cell (fun k => x0 (ix3 b r k)) (fun k l => x2 (ix3 0 k l)) n := by
  pointwise [val_main_v9, val_main_v10, val_main_v11, cell]

theorem ref_value1 (b : Fin 8) (r : Fin 256) (n : Fin 1024) : val_main_v14 (F := Ideal) x0 x2 (ix3 b r n)
    = cell (fun k => x0 (ix3 b r k)) (fun k l => x2 (ix3 1 k l)) n := by
  pointwise [val_main_v12, val_main_v13, val_main_v14, cell]

/-- The four products in their order. -/
theorem ref_ordered (j : Fin 4) (b : Fin 8) (r : Fin 256) (n : Fin 1024) : val_main_v18 (F := Ideal) x0 x1 x2 (ix4 j b r n)
    = cell (fun k => x0 (ix3 b r k)) (fun k l => weight (fun d => x1 (ix3 d k l)) (fun d => x2 (ix3 d k l)) j) n := by
  match j with
  | 0 => pointwise [val_main_v6, val_main_v7, val_main_v8, val_main_v15, val_main_v16, val_main_v17, val_main_v18, ref_key0, weight]
  | 1 => pointwise [val_main_v6, val_main_v7, val_main_v8, val_main_v15, val_main_v16, val_main_v17, val_main_v18, ref_key1, weight]
  | 2 => pointwise [val_main_v6, val_main_v7, val_main_v8, val_main_v15, val_main_v16, val_main_v17, val_main_v18, ref_value0, weight]
  | 3 => pointwise [val_main_v6, val_main_v7, val_main_v8, val_main_v15, val_main_v16, val_main_v17, val_main_v18, ref_value1, weight]

/-- The reference's array is the function of its arguments. -/
theorem ref_array : val_main_v19 (F := Ideal) x0 x1 x2 = G x0 x1 x2 := by
  funext i
  rw [eq_ix3 i]
  generalize i 0 = j
  generalize i 1 = s
  generalize i 2 = n
  refine Eq.trans (b := val_main_v18 (F := Ideal) x0 x1 x2 (ix4 j ⟨s.val / 256, by have : s.val < 2048 := s.isLt; omega⟩ ⟨s.val % 256, Nat.mod_lt _ (by decide)⟩ n)) ?_
    (ref_ordered x0 x1 x2 _ _ _ _)
  pointwise [val_main_v19]

end Reference

theorem frame_bits : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := by
  intro m ρ _
  refine (θ_run _ _ _).mono (fun r h => ⟨fun c => (h c).2, ?_⟩) (Cert.Reference4Ideal.Value.run m ρ)
  funext s
  exact match s with
    | (_, .reg s) => Fin.elim0 s
    | (_, .dma s) => Fin.elim0 s

theorem kernel_same : Cert.preserves_Kernel4_Kernel4Ideal := trivial

theorem algebraic : Cert.algebraic_Kernel4Ideal_Reference4Ideal := by
  pair_intro
  · run_from Cert.Kernel4Ideal.Value.run_blocks m g
  · run_from Cert.Reference4Ideal.Value.run m' g'
    rw [final, Cert.Reference4Ideal.Read.val_main_v19_eq]
    obtain ⟨h0, h1, h2⟩ := hagree c
    exact (congrArg (Reference4Ideal.Read.val_main_v19 (F := Ideal) _ _) h2).trans (ref_array _ _ _)

end Cert.MemValues

end
-- ==== Proof.Values.MixBlock.lean ====
/- The mixing projection's stage, a row at a time, and what its kernel stores for a block of 1024 rows.

   A row's two mixer halves are put beside each other and projected, the scaled residual row is added, and the sum is
   normalised; the memory's query is the projected row times a scale. The kernel adds the products of the two halves. -/
module

public import proofs.«01_k».proof.Proof.Values.FfnRow
public import proofs.«01_k».proof.Proof.Gen.Kernel5Ideal.Value

@[expose] public section

set_option maxRecDepth 16384

noncomputable section

namespace Cert.MixValues

open Idealize.ShloMosaic Idealize.ShloMosaic.TcCoe
open Cert.FfnValues

/-- The scale of the memory's scores, as the programs spell it. -/
abbrev queryScale : EReal := Ideal.ofBits .f32 0x3D800000#32

/-- Two halves of a row, side by side, times a matrix. -/
def halvesTimes (a d : Fin 512 → EReal) (W : Fin 1024 → Fin 1024 → EReal) (j : Fin 1024) : EReal :=
  (∑ k : Fin 512, a k * W ⟨k, by omega⟩ j) + ∑ k : Fin 512, d k * W ⟨512 + k, by omega⟩ j

/-- The normalised row after the mixing projection and the residual. -/
def mixRow (a d : Fin 512 → EReal) (x : Fin 1024 → EReal) (W : Fin 1024 → Fin 1024 → EReal) (g b : Fin 1024 → EReal)
    (j : Fin 1024) : EReal :=
  normRow (fun k => scale * x k + halvesTimes a d W k) g b j

/-- The memory's query of a row. -/
def queryRow (h : Fin 1024 → EReal) (Q : Fin 1024 → Fin 1024 → EReal) (j : Fin 1024) : EReal :=
  rowTimes 1024 h Q j * queryScale

theorem mixRow_congr {a d a₁ d₁ : Fin 512 → EReal} {x g b x₁ g₁ b₁ : Fin 1024 → EReal}
    {W W₁ : Fin 1024 → Fin 1024 → EReal} {j j₁ : Fin 1024} (h0 : ∀ k, a k = a₁ k) (h1 : ∀ k, d k = d₁ k)
    (h2 : ∀ k, x k = x₁ k) (h3 : ∀ k l, W k l = W₁ k l) (h4 : ∀ k, g k = g₁ k) (h5 : ∀ k, b k = b₁ k) (hj : j = j₁) :
    mixRow a d x W g b j = mixRow a₁ d₁ x₁ W₁ g₁ b₁ j₁ := by
  obtain rfl := funext h0
  obtain rfl := funext h1
  obtain rfl := funext h2
  obtain rfl := funext fun k => funext (h3 k)
  obtain rfl := funext h4
  obtain rfl := funext h5
  rw [hj]

theorem queryRow_congr {h h₁ : Fin 1024 → EReal} {Q Q₁ : Fin 1024 → Fin 1024 → EReal} {j j₁ : Fin 1024}
    (h0 : ∀ k, h k = h₁ k) (h1 : ∀ k l, Q k l = Q₁ k l) (hj : j = j₁) : queryRow h Q j = queryRow h₁ Q₁ j₁ := by
  obtain rfl := funext h0
  obtain rfl := funext fun k => funext (h1 k)
  rw [hj]

open Cert.Kernel5Ideal Cert.Kernel5Ideal.Gen

variable (x0 x1 : Vec Ideal S1024x512 .bf16) (x2 : Vec Ideal S1024x1024 .f32) (x3 : Vec Ideal S1024x1024 .bf16)
    (x4 x5 : Vec Ideal S1x1024 .f32) (x6 : Vec Ideal S1024x1024 .bf16)

/-- The body's normalised block is the normalised row of each of its rows. -/
theorem normalised_apply (r j : Fin 1024) :
    k0_pay3 (F := Ideal) x0 x1 x2 x3 x4 x5 x6 (ix2 r j)
      = mixRow (fun k => x0 (ix2 r k)) (fun k => x1 (ix2 r k)) (fun k => x2 (ix2 r k)) (fun k l => x3 (ix2 k l))
          (fun k => x4 (ix2 0 k)) (fun k => x5 (ix2 0 k)) j := by
  unfold k0_pay3
  pointwise [k0_pay2, mixRow, normRow, mean, halvesTimes, r0_0, r0_1, r0_2, r0_3, r0_4]

/-- What the body stores first. -/
theorem stored7_apply (r j : Fin 1024) :
    out0_7 (F := Ideal) x0 x1 x2 x3 x4 x5 x6 (ix2 r j)
      = mixRow (fun k => x0 (ix2 r k)) (fun k => x1 (ix2 r k)) (fun k => x2 (ix2 r k)) (fun k l => x3 (ix2 k l))
          (fun k => x4 (ix2 0 k)) (fun k => x5 (ix2 0 k)) j := by
  unfold out0_7
  rw [View.canon_unit_zero]
  · exact normalised_apply x0 x1 x2 x3 x4 x5 x6 r j
  case h => funext a; match a with | ⟨0, _⟩ => rfl | ⟨1, _⟩ => rfl

/-- What the body stores second. -/
theorem stored8_apply (r j : Fin 1024) :
    out0_8 (F := Ideal) x0 x1 x2 x3 x4 x5 x6 (ix2 r j)
      = queryRow (mixRow (fun k => x0 (ix2 r k)) (fun k => x1 (ix2 r k)) (fun k => x2 (ix2 r k)) (fun k l => x3 (ix2 k l))
          (fun k => x4 (ix2 0 k)) (fun k => x5 (ix2 0 k))) (fun k l => x6 (ix2 k l)) j := by
  unfold out0_8
  rw [View.canon_unit_zero]
  · pointwise [k0_pay1, normalised_apply, queryRow, rowTimes, r0_3]
  case h => funext a; match a with | ⟨0, _⟩ => rfl | ⟨1, _⟩ => rfl

end Cert.MixValues

end
-- ==== Proof.Values.MixKernel.lean ====
/- The mixing projection's two result arrays after the kernel's run. -/
module

public import proofs.«01_k».proof.Proof.Values.MixBlock
public import Idealize.ShloMosaic.Lib.Pipeline.ValueKit
public import Idealize.ShloMosaic.Lib.Claim

@[expose] public section

set_option maxRecDepth 16384

noncomputable section

namespace Cert.MixValues

open Idealize.ShloMosaic Idealize.ShloMosaic.TcCoe Idealize.SL.Sem
open Idealize.ShloMosaic.Pipeline (Dat)
open Cert.FfnValues
open Cert.Kernel5Ideal Cert.Kernel5Ideal.Gen

/-- The normalised rows, over the arguments' arrays. -/
def G (x0 x1 : FVec Ideal S32768x512 .bf16) (x2 : FVec Ideal S32768x1024 .f32) (x3 : FVec Ideal S1024x1024 .f32)
    (x4 x5 : FVec Ideal S1024 .f32) : FVec Ideal S32768x1024 .f32 := fun i =>
  mixRow (fun k => x0 (ix2 (i 0) k)) (fun k => x1 (ix2 (i 0) k)) (fun k => x2 (ix2 (i 0) k)) (fun k l => x3 (ix2 k l))
    (fun k => x4 (ix1 k)) (fun k => x5 (ix1 k)) (i 1)

/-- The memory's queries, over the arguments' arrays. -/
def Q (x0 x1 : FVec Ideal S32768x512 .bf16) (x2 : FVec Ideal S32768x1024 .f32) (x3 : FVec Ideal S1024x1024 .f32)
    (x4 x5 : FVec Ideal S1024 .f32) (x6 : FVec Ideal S1024x1024 .f32) : FVec Ideal S32768x1024 .bf16 := fun i =>
  queryRow (mixRow (fun k => x0 (ix2 (i 0) k)) (fun k => x1 (ix2 (i 0) k)) (fun k => x2 (ix2 (i 0) k))
    (fun k l => x3 (ix2 k l)) (fun k => x4 (ix1 k)) (fun k => x5 (ix1 k))) (fun k l => x6 (ix2 k l)) (i 1)

variable (m : (ℓ : Loc nD τ sig) → Buf (Elt Ideal) ℓ)

/-- The windows' index maps: the rows' windows move with the point, the weights' stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] :=
  (by decide +kernel : ∀ t : Fin grid0.N, _)

/-- What a window's array holds when the pipeline begins, the narrow copies and the one-row copies being the arguments. -/
theorem entry_v0 (c : Dev nD) (i : S1024x1024.Idx) : (V m c main_v0 : FVec Ideal S1024x1024 .bf16) i
    = (m ((c : Thread nD τ).loc main_arg3) : FVec Ideal S1024x1024 .f32) i := by
  entry_read; pointwise

theorem entry_v3 (c : Dev nD) (i : S1024x1024.Idx) : (V m c main_v3 : FVec Ideal S1024x1024 .bf16) i
    = (m ((c : Thread nD τ).loc main_arg6) : FVec Ideal S1024x1024 .f32) i := by
  entry_read; pointwise

theorem entry_v1 (c : Dev nD) (k : Fin 1024) : (V m c main_v1 : FVec Ideal S1x1024 .f32) (ix2 0 k)
    = (m ((c : Thread nD τ).loc main_arg4) : FVec Ideal S1024 .f32) (ix1 k) := by
  entry_read; pointwise

theorem entry_v2 (c : Dev nD) (k : Fin 1024) : (V m c main_v2 : FVec Ideal S1x1024 .f32) (ix2 0 k)
    = (m ((c : Thread nD τ).loc main_arg5) : FVec Ideal S1024 .f32) (ix1 k) := by
  entry_read; pointwise

/-- What the windows' blocks hold at a point, from the arguments. -/
theorem block0 (c : Dev nD) (t : Fin cfg0.N) (r : Fin 1024) (k : Fin 512) : iblk m c 0 t (ix2 r k)
    = (m ((c : Thread nD τ).loc main_arg0) : FVec Ideal S32768x512 .bf16) (ix2 ⟨t.val * 1024 + r.val, by have : t.val < 32 := t.isLt; omega⟩ k) := by
  blk_ext [iblk, V, idx t]

theorem block1 (c : Dev nD) (t : Fin cfg0.N) (r : Fin 1024) (k : Fin 512) : iblk m c 1 t (ix2 r k)
    = (m ((c : Thread nD τ).loc main_arg1) : FVec Ideal S32768x512 .bf16) (ix2 ⟨t.val * 1024 + r.val, by have : t.val < 32 := t.isLt; omega⟩ k) := by
  blk_ext [iblk, V, idx t]

theorem block2 (c : Dev nD) (t : Fin cfg0.N) (r : Fin 1024) (k : Fin 1024) : iblk m c 2 t (ix2 r k)
    = (m ((c : Thread nD τ).loc main_arg2) : FVec Ideal S32768x1024 .f32) (ix2 ⟨t.val * 1024 + r.val, by have : t.val < 32 := t.isLt; omega⟩ k) := by
  blk_ext [iblk, V, idx t]

theorem block3 (c : Dev nD) (t : Fin cfg0.N) (k l : Fin 1024) : iblk m c 3 t (ix2 k l)
    = (m ((c : Thread nD τ).loc main_arg3) : FVec Ideal S1024x1024 .f32) (ix2 k l) :=
  Eq.trans (b := (V m c main_v0 : FVec Ideal S1024x1024 .bf16) (ix2 k l)) (by blk_ext [iblk, idx t]) (entry_v0 m c (ix2 k l))

theorem block6 (c : Dev nD) (t : Fin cfg0.N) (k l : Fin 1024) : iblk m c 6 t (ix2 k l)
    = (m ((c : Thread nD τ).loc main_arg6) : FVec Ideal S1024x1024 .f32) (ix2 k l) :=
  Eq.trans (b := (V m c main_v3 : FVec Ideal S1024x1024 .bf16) (ix2 k l)) (by blk_ext [iblk, idx t]) (entry_v3 m c (ix2 k l))

theorem block4 (c : Dev nD) (t : Fin cfg0.N) (k : Fin 1024) : iblk m c 4 t (ix2 0 k)
    = (m ((c : Thread nD τ).loc main_arg4) : FVec Ideal S1024 .f32) (ix1 k) :=
  Eq.trans (b := (V m c main_v1 : FVec Ideal S1x1024 .f32) (ix2 0 k)) (by blk_ext [iblk, idx t]) (entry_v1 m c k)

theorem block5 (c : Dev nD) (t : Fin cfg0.N) (k : Fin 1024) : iblk m c 5 t (ix2 0 k)
    = (m ((c : Thread nD τ).loc main_arg5) : FVec Ideal S1024 .f32) (ix1 k) :=
  Eq.trans (b := (V m c main_v2 : FVec Ideal S1x1024 .f32) (ix2 0 k)) (by blk_ext [iblk, idx t]) (entry_v2 m c k)

/-- The first result array after the run. -/
theorem final7 (c : Dev nD) : (dats m 0 c).arrAt 7 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  have hy : y = ix2 (y 0) (y 1) := eq_ix2 (y : S1024x1024.Idx)
  refine (congrArg _ hy).trans ?_
  refine (stored7_apply _ _ _ _ _ _ _ _ _).trans ?_
  unfold G
  have er : ((cfg0.win 7).blk t).view.emb y 0
      = (⟨t.val * 1024 + (y 0).val, by have : t.val < 32 := t.isLt; have : (y 0).val < 1024 := (y 0).isLt; omega⟩ : Fin 32768) :=
    Fin.ext (by blk_simp [idx t])
  have ej : ((cfg0.win 7).blk t).view.emb y 1 = y 1 := Fin.ext (by blk_simp [idx t])
  rw [er]
  exact mixRow_congr (block0 m c t (y 0)) (block1 m c t (y 0)) (block2 m c t (y 0)) (block3 m c t) (block4 m c t) (block5 m c t) ej.symm

/-- The second result array after the run. -/
theorem final8 (c : Dev nD) : (dats m 0 c).arrAt 8 cfg0.N
    = Q (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  have hy : y = ix2 (y 0) (y 1) := eq_ix2 (y : S1024x1024.Idx)
  refine (congrArg _ hy).trans ?_
  refine (stored8_apply _ _ _ _ _ _ _ _ _).trans ?_
  unfold Q
  have er : ((cfg0.win 8).blk t).view.emb y 0
      = (⟨t.val * 1024 + (y 0).val, by have : t.val < 32 := t.isLt; have : (y 0).val < 1024 := (y 0).isLt; omega⟩ : Fin 32768) :=
    Fin.ext (by blk_simp [idx t])
  have ej : ((cfg0.win 8).blk t).view.emb y 1 = y 1 := Fin.ext (by blk_simp [idx t])
  rw [er]
  exact queryRow_congr (fun k => mixRow_congr (block0 m c t (y 0)) (block1 m c t (y 0)) (block2 m c t (y 0)) (block3 m c t) (block4 m c t) (block5 m c t) rfl)
    (block6 m c t) ej.symm

end Cert.MixValues

end
-- ==== Proof.Values.MixReference.lean ====
/- The reference's mixing projection and memory queries, read at an index. -/
module

public import proofs.«01_k».proof.Proof.Values.MixBlock
public import proofs.«01_k».proof.Proof.Gen.Reference5Ideal.Read

@[expose] public section

set_option maxRecDepth 16384

noncomputable section

namespace Cert.MixValues

open Idealize.ShloMosaic Idealize.ShloMosaic.TcCoe
open Cert.FfnValues
open Cert.Reference5Ideal Cert.Reference5Ideal.Gen Cert.Reference5Ideal.Read

variable (x0 x1 : FVec Ideal S32768x512 .bf16) (x2 : FVec Ideal S32768x1024 .f32) (x3 : FVec Ideal S1024x1024 .f32)
    (x4 x5 : FVec Ideal S1024 .f32) (x6 : FVec Ideal S1024x1024 .f32)

/-- The scaled residual plus the projection. -/
theorem ref_pre (r : Fin 32768) (j : Fin 1024) :
    val_main_v6 (F := Ideal) x0 x1 x2 x3 (ix2 r j)
      = scale * x2 (ix2 r j) + halvesTimes (fun k => x0 (ix2 r k)) (fun k => x1 (ix2 r k)) (fun k l => x3 (ix2 k l)) j := by
  pointwise [val_main_cst, val_main_v0, val_main_v1, val_main_v2, val_main_v3, val_main_v4, val_main_v5, val_main_v6,
    halvesTimes]

/-- The normalised row. -/
theorem ref_mix (r : Fin 32768) (j : Fin 1024) :
    val_main_v30 (F := Ideal) x0 x1 x2 x3 x4 x5 (ix2 r j)
      = mixRow (fun k => x0 (ix2 r k)) (fun k => x1 (ix2 r k)) (fun k => x2 (ix2 r k)) (fun k l => x3 (ix2 k l))
          (fun k => x4 (ix1 k)) (fun k => x5 (ix1 k)) j := by
  pointwise [val_main_cst_0, val_main_v7, val_main_v8, val_main_cst_1, val_main_v9, val_main_v10, val_main_v11, val_main_v12,
    val_main_v13, val_main_cst_2, val_main_v14, val_main_v15, val_main_cst_3, val_main_v16, val_main_v17, val_main_v18,
    val_main_v19, val_main_cst_4, val_main_v20, val_main_v21, val_main_v22, val_main_v23, val_main_v24, val_main_v25,
    val_main_v26, val_main_v27, val_main_v28, val_main_v29, val_main_v30, ref_pre, mixRow, normRow, mean]

/-- The memory's query. -/
theorem ref_query (r : Fin 32768) (j : Fin 1024) :
    val_main_v34 (F := Ideal) x0 x1 x2 x3 x4 x5 x6 (ix2 r j)
      = queryRow (mixRow (fun k => x0 (ix2 r k)) (fun k => x1 (ix2 r k)) (fun k => x2 (ix2 r k)) (fun k l => x3 (ix2 k l))
          (fun k => x4 (ix1 k)) (fun k => x5 (ix1 k))) (fun k l => x6 (ix2 k l)) j := by
  pointwise [val_main_v31, val_main_cst_5, val_main_v32, val_main_v33, val_main_v34, ref_mix, queryRow, rowTimes]

end Cert.MixValues

end
-- ==== Proof.Values.MixClaim.lean ====
/- The claims about the mixing projection, from the kernel's arrays and the reference's arrays. -/
module

public import proofs.«01_k».proof.Defs
public import proofs.«01_k».proof.Proof.Gen.Kernel5.Frame
public import proofs.«01_k».proof.Proof.Gen.Reference5Ideal.Run
public import proofs.«01_k».proof.Proof.Values.MixKernel
public import proofs.«01_k».proof.Proof.Values.MixReference
public import Idealize.ShloMosaic.Lib.Claim

@[expose] public section

set_option maxRecDepth 16384

noncomputable section

namespace Cert.MixValues

open Idealize.ShloMosaic Idealize.ShloMosaic.TcCoe Idealize.SL.Sem

/-- The reference's normalised rows are the function of its arguments. -/
theorem ref_normalised (x0 x1 : FVec Ideal Reference5Ideal.S32768x512 .bf16) (x2 : FVec Ideal Reference5Ideal.S32768x1024 .f32)
    (x3 : FVec Ideal Reference5Ideal.S1024x1024 .f32) (x4 x5 : FVec Ideal Reference5Ideal.S1024 .f32) :
    Reference5Ideal.Read.val_main_v30 (F := Ideal) x0 x1 x2 x3 x4 x5 = G x0 x1 x2 x3 x4 x5 := by
  funext i
  rw [eq_ix2 i]
  exact ref_mix x0 x1 x2 x3 x4 x5 (i 0) (i 1)

/-- The reference's queries are the function of its arguments. -/
theorem ref_queries (x0 x1 : FVec Ideal Reference5Ideal.S32768x512 .bf16) (x2 : FVec Ideal Reference5Ideal.S32768x1024 .f32)
    (x3 : FVec Ideal Reference5Ideal.S1024x1024 .f32) (x4 x5 : FVec Ideal Reference5Ideal.S1024 .f32)
    (x6 : FVec Ideal Reference5Ideal.S1024x1024 .f32) :
    Reference5Ideal.Read.val_main_v34 (F := Ideal) x0 x1 x2 x3 x4 x5 x6 = Q x0 x1 x2 x3 x4 x5 x6 := by
  funext i
  rw [eq_ix2 i]
  exact ref_query x0 x1 x2 x3 x4 x5 x6 (i 0) (i 1)

theorem frame_bits : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := by
  intro m ρ _
  refine (θ_run _ _ _).mono (fun r h => ⟨fun c => (h c).2.2, ?_⟩) (Cert.Reference5Ideal.Value.run m ρ)
  funext s
  exact match s with
    | (_, .reg s) => Fin.elim0 s
    | (_, .dma s) => Fin.elim0 s

theorem kernel_same : Cert.preserves_Kernel5_Kernel5Ideal := trivial

theorem algebraic : Cert.algebraic_Kernel5Ideal_Reference5Ideal := by
  pair_intro
  · run_from Cert.Kernel5Ideal.Value.run_blocks m g
  · run_from Cert.Reference5Ideal.Value.run m' g'
    · rw [final7, Cert.Reference5Ideal.Read.val_main_v30_eq]
      obtain ⟨h0, h1, h2, h3, h4, h5, h6⟩ := hagree c
      rw [h0, h1, h2, h3, h4, h5]
      exact ref_normalised _ _ _ _ _ _
    · rw [final8, Cert.Reference5Ideal.Read.val_main_v34_eq]
      obtain ⟨h0, h1, h2, h3, h4, h5, h6⟩ := hagree c
      rw [h0, h1, h2, h3, h4, h5, h6]
      exact ref_queries _ _ _ _ _ _ _

end Cert.MixValues

end
-- ==== Proof.Values.InputKernel.lean ====
/- The prompt's projections, an entry at a time, and what their kernel stores for 1024 prompt rows.

   Each prompt row is multiplied by the input weight.  Columns 768 to 1279 are the queries, scaled by an eighth; the next
   512 the keys, stored twice: by head with the position last, and by row; the next 512 the values, by head with the
   position last.  The first 256 columns of a sequence's last sixteen rows are kept as its history. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.InputValues

open Idealize.ShloMosaic Idealize.ShloMosaic.TcCoe Idealize.SL.Sem
open Idealize.ShloMosaic.Pipeline (Dat)

/-- A prompt row times the input weight. -/
def cell (row : Fin 1024 → EReal) (W : Fin 1024 → Fin 2304 → EReal) (n : Fin 2304) : EReal := ∑ k : Fin 1024, row k * W k n

/-- The scale of the queries. -/
def eighth : EReal := Ideal.ofBits .f32 0x3E000000#32

theorem cell_congr {row row₁ : Fin 1024 → EReal} {W W₁ : Fin 1024 → Fin 2304 → EReal} {n n₁ : Fin 2304}
    (h0 : ∀ k, row k = row₁ k) (h1 : ∀ k l, W k l = W₁ k l) (hn : n = n₁) : cell row W n = cell row₁ W₁ n₁ := by
  obtain rfl := funext h0
  obtain rfl := funext fun k => funext (h1 k)
  rw [hn]

section Kernel

open Cert.Kernel6Ideal Cert.Kernel6Ideal.Gen

/-- Sequence `b`, position `s`, column `n` of the projection, over the arguments' arrays. -/
def entry (x0 : FVec Ideal S8x4096x1024 .f32) (x1 : FVec Ideal S1024x2304 .f32) (b : Fin 8) (s : Fin 4096) (n : Fin 2304) : EReal :=
  cell (fun k => x0 (ix3 b s k)) (fun k l => x1 (ix2 k l)) n

/-- A query: row `r` of all the prompts, column `n`. -/
def query (x0 : FVec Ideal S8x4096x1024 .f32) (x1 : FVec Ideal S1024x2304 .f32) (r : Fin 32768) (n : Fin 512) : EReal :=
  entry x0 x1 ⟨r.val / 4096, by omega⟩ ⟨r.val % 4096, Nat.mod_lt _ (by decide)⟩ ⟨768 + n.val, by omega⟩ * eighth

/-- A key: row `r` of all the prompts, column `n`. -/
def key (x0 : FVec Ideal S8x4096x1024 .f32) (x1 : FVec Ideal S1024x2304 .f32) (r : Fin 32768) (n : Fin 512) : EReal :=
  entry x0 x1 ⟨r.val / 4096, by omega⟩ ⟨r.val % 4096, Nat.mod_lt _ (by decide)⟩ ⟨1280 + n.val, by omega⟩

/-- A key: sequence `b`, head `a`, lane `d`, position `s`. -/
def headKey (x0 : FVec Ideal S8x4096x1024 .f32) (x1 : FVec Ideal S1024x2304 .f32) (b a : Fin 8) (d : Fin 64) (s : Fin 4096) : EReal :=
  entry x0 x1 b s ⟨1280 + (a.val * 64 + d.val), by omega⟩

/-- A value: sequence `b`, head `a`, lane `d`, position `s`. -/
def headValue (x0 : FVec Ideal S8x4096x1024 .f32) (x1 : FVec Ideal S1024x2304 .f32) (b a : Fin 8) (d : Fin 64) (s : Fin 4096) : EReal :=
  entry x0 x1 b s ⟨1792 + (a.val * 64 + d.val), by omega⟩

/-- The history: sequence `b`, row `r` of its last sixteen, column `n`. -/
def past (x0 : FVec Ideal S8x4096x1024 .f32) (x1 : FVec Ideal S1024x2304 .f32) (b : Fin 8) (r : Fin 16) (n : Fin 256) : EReal :=
  entry x0 x1 b ⟨4080 + r.val, by omega⟩ ⟨n.val, by omega⟩

/-- The arrays of all of them. -/
def Q (x0 : FVec Ideal S8x4096x1024 .f32) (x1 : FVec Ideal S1024x2304 .f32) : FVec Ideal S32768x512 .bf16 := fun i => query x0 x1 (i 0) (i 1)
def K (x0 : FVec Ideal S8x4096x1024 .f32) (x1 : FVec Ideal S1024x2304 .f32) : FVec Ideal S32768x512 .bf16 := fun i => key x0 x1 (i 0) (i 1)
def KT (x0 : FVec Ideal S8x4096x1024 .f32) (x1 : FVec Ideal S1024x2304 .f32) : FVec Ideal S1x8x8x64x4096 .f32 := fun i =>
  headKey x0 x1 (i 1) (i 2) (i 3) (i 4)
def VT (x0 : FVec Ideal S8x4096x1024 .f32) (x1 : FVec Ideal S1024x2304 .f32) : FVec Ideal S1x8x8x64x4096 .f32 := fun i =>
  headValue x0 x1 (i 1) (i 2) (i 3) (i 4)
def H (x0 : FVec Ideal S8x4096x1024 .f32) (x1 : FVec Ideal S1024x2304 .f32) : FVec Ideal S8x16x256 .f32 := fun i => past x0 x1 (i 0) (i 1) (i 2)

/-! ## What the body stores -/

theorem pay_q (x : Vec Ideal S1024x1024 .f32) (w : Vec Ideal S1024x2304 .bf16) (r : Fin 1024) (n : Fin 512) :
    k0_pay1 (F := Ideal) (k0_pay7 x) (k0_pay54 (View.ld w (Rect.unit ![0, 768] ![1024, 512] inb_S1024x2304_S1024x512_0_768)))
        (constant S1024x512 .f32 0x00000000#32) (ix2 r n)
      = cell (fun k => x (ix2 r k)) (fun k l => w (ix2 k l)) ⟨768 + n.val, by omega⟩ * eighth := by
  pointwise [k0_pay1, k0_pay7, k0_pay54, cell, eighth]

theorem pay_k (x : Vec Ideal S1024x1024 .f32) (w : Vec Ideal S1024x2304 .bf16) (r : Fin 1024) (n : Fin 512) :
    k0_pay5 (F := Ideal) (k0_pay7 x) (View.ld w (Rect.unit ![0, 1280] ![1024, 512] inb_S1024x2304_S1024x512_0_1280)) (ix2 r n)
      = cell (fun k => x (ix2 r k)) (fun k l => w (ix2 k l)) ⟨1280 + n.val, by omega⟩ := by
  pointwise [k0_pay5, k0_pay2, k0_pay7, cell]

theorem pay_kt (x : Vec Ideal S1024x1024 .f32) (w : Vec Ideal S1024x2304 .bf16) (a : Fin 8) (d : Fin 64) (r : Fin 1024) :
    k0_pay3 (F := Ideal) (k0_pay7 x) (View.ld w (Rect.unit ![0, 1280] ![1024, 512] inb_S1024x2304_S1024x512_0_1280)) (ix5 0 0 a d r)
      = cell (fun k => x (ix2 r k)) (fun k l => w (ix2 k l)) ⟨1280 + (a.val * 64 + d.val), by omega⟩ := by
  pointwise [k0_pay3, k0_pay2, k0_pay7, cell]

theorem pay_vt (x : Vec Ideal S1024x1024 .f32) (w : Vec Ideal S1024x2304 .bf16) (a : Fin 8) (d : Fin 64) (r : Fin 1024) :
    k0_pay4 (F := Ideal) (k0_pay7 x) (View.ld w (Rect.unit ![0, 1792] ![1024, 512] inb_S1024x2304_S1024x512_0_1792)) (ix5 0 0 a d r)
      = cell (fun k => x (ix2 r k)) (fun k l => w (ix2 k l)) ⟨1792 + (a.val * 64 + d.val), by omega⟩ := by
  pointwise [k0_pay4, k0_pay7, cell]

theorem pay_rows (x : Vec Ideal S1024x1024 .f32) (w : Vec Ideal S1024x2304 .bf16) (r : Fin 1024) (n : Fin 256) :
    k0_pay9 (F := Ideal) x (View.ld w (Rect.unit ![0, 0] ![1024, 256] inb_S1024x2304_S1024x256_0_0)) (ix2 r n)
      = cell (fun k => x (ix2 r k)) (fun k l => w (ix2 k l)) ⟨n.val, by omega⟩ := by
  pointwise [k0_pay9, k0_pay8, k0_pay7, cell]

theorem pay_hist (v : Vec Ideal S16x256 .f32) (r : Fin 16) (n : Fin 256) : k0_pay16 (F := Ideal) v (ix3 0 r n) = v (ix2 r n) := by
  pointwise [k0_pay16]

variable (m : (ℓ : Loc nD τ sig) → Buf (Elt Ideal) ℓ)

/-- The windows' index maps: a point is a tile of 1024 prompt rows, four of them a sequence. -/
theorem idx : ∀ t : Fin cfg0.N, win0_0.index t = ![t.val, 0] ∧ win0_1.index t = ![0, 0] ∧ win0_9.index t = ![t.val, 0]
    ∧ win0_10.index t = ![0, t.val / 4, 0, 0, t.val % 4] ∧ win0_11.index t = ![0, t.val / 4, 0, 0, t.val % 4]
    ∧ win0_12.index t = ![t.val, 0] ∧ win0_13.index t = ![t.val / 4, 0, 0] :=
  (by decide +kernel : ∀ t : Fin grid0.N, _)

/-- The prompt's rows when the pipeline begins. -/
theorem entry_rows (c : Dev nD) (r : Fin 32768) (k : Fin 1024) : (V m c main_v20 : FVec Ideal S32768x1024 .f32) (ix2 r k)
    = (m ((c : Thread nD τ).loc main_arg0) : FVec Ideal S8x4096x1024 .f32) (ix3 ⟨r.val / 4096, by omega⟩ ⟨r.val % 4096, Nat.mod_lt _ (by decide)⟩ k) := by
  simp only [V, hostOps0, hostOps0_1, hostOps0_2, hostOps0_3, hostOps0_4, List.flatten_cons, List.flatten_nil, List.append_nil, List.cons_append, List.nil_append]
  entry_read; pointwise

/-- The weight when the pipeline begins. -/
theorem entry_weight (c : Dev nD) (k : Fin 1024) (l : Fin 2304) : (V m c main_v21 : FVec Ideal S1024x2304 .bf16) (ix2 k l)
    = (m ((c : Thread nD τ).loc main_arg1) : FVec Ideal S1024x2304 .f32) (ix2 k l) := by
  simp only [V, hostOps0, hostOps0_1, hostOps0_2, hostOps0_3, hostOps0_4, List.flatten_cons, List.flatten_nil, List.append_nil, List.cons_append, List.nil_append]
  entry_read; pointwise

/-- Row `r` of the point's tile times the weight it holds is the row of the prompt times the argument's weight. -/
theorem cell_point (c : Dev nD) (t : Fin cfg0.N) (r : Fin 1024) (n : Fin 2304) (b : Fin 8) (s : Fin 4096)
    (h : t.val * 1024 + r.val = b.val * 4096 + s.val) :
    cell (fun k => (iblk m c 0 t : Vec Ideal S1024x1024 .f32) (ix2 r k)) (fun k l => (iblk m c 1 t : Vec Ideal S1024x2304 .bf16) (ix2 k l)) n
      = entry (m ((c : Thread nD τ).loc main_arg0)) (m ((c : Thread nD τ).loc main_arg1)) b s n := by
  unfold entry
  have hN : t.val < 32 := t.isLt
  refine cell_congr (fun k => ?_) (fun k l => ?_) rfl
  · refine Eq.trans (b := (V m c main_v20 : FVec Ideal S32768x1024 .f32) (ix2 ⟨t.val * 1024 + r.val, by omega⟩ k))
      (by blk_ext [iblk, idx t]) ((entry_rows m c _ k).trans ?_)
    have e0 : (⟨(t.val * 1024 + r.val) / 4096, by omega⟩ : Fin 8) = b := Fin.ext (by dsimp only; omega)
    have e1 : (⟨(t.val * 1024 + r.val) % 4096, Nat.mod_lt _ (by decide)⟩ : Fin 4096) = s := Fin.ext (by dsimp only; omega)
    exact congrArg₂ (fun p q => (m ((c : Thread nD τ).loc main_arg0) : FVec Ideal S8x4096x1024 .f32) (ix3 p q k)) e0 e1
  · exact Eq.trans (b := (V m c main_v21 : FVec Ideal S1024x2304 .bf16) (ix2 k l)) (by blk_ext [iblk, idx t]) (entry_weight m c k l)

/-! ## What each point leaves -/

theorem left_q (c : Dev nD) (t : Fin cfg0.N) : (dats m 0 c).after 9 t
    = k0_pay1 (F := Ideal) (k0_pay7 (iblk m c 0 t)) (k0_pay54 (View.ld (iblk m c 1 t) (Rect.unit ![0, 768] ![1024, 512] inb_S1024x2304_S1024x512_0_768)))
        (constant S1024x512 .f32 0x00000000#32) := by
  rw [after0_9]
  by_cases h0 : t.val % 4 = 0
  · rw [outsAt0_A m c t h0]; frame_out; rfl
  · rw [outsAt0_B m c t h0]; frame_out; rfl

theorem left_kt (c : Dev nD) (t : Fin cfg0.N) : (dats m 0 c).after 10 t
    = k0_pay3 (F := Ideal) (k0_pay7 (iblk m c 0 t)) (View.ld (iblk m c 1 t) (Rect.unit ![0, 1280] ![1024, 512] inb_S1024x2304_S1024x512_0_1280)) := by
  rw [after0_10]
  by_cases h0 : t.val % 4 = 0
  · rw [outsAt0_A m c t h0]; frame_out; rfl
  · rw [outsAt0_B m c t h0]; frame_out; rfl

theorem left_vt (c : Dev nD) (t : Fin cfg0.N) : (dats m 0 c).after 11 t
    = k0_pay4 (F := Ideal) (k0_pay7 (iblk m c 0 t)) (View.ld (iblk m c 1 t) (Rect.unit ![0, 1792] ![1024, 512] inb_S1024x2304_S1024x512_0_1792)) := by
  rw [after0_11]
  by_cases h0 : t.val % 4 = 0
  · rw [outsAt0_A m c t h0]; frame_out; rfl
  · rw [outsAt0_B m c t h0]; frame_out; rfl

theorem left_k (c : Dev nD) (t : Fin cfg0.N) : (dats m 0 c).after 12 t
    = k0_pay5 (F := Ideal) (k0_pay7 (iblk m c 0 t)) (View.ld (iblk m c 1 t) (Rect.unit ![0, 1280] ![1024, 512] inb_S1024x2304_S1024x512_0_1280)) := by
  rw [after0_12]
  by_cases h0 : t.val % 4 = 0
  · rw [outsAt0_A m c t h0]; frame_out; rfl
  · rw [outsAt0_B m c t h0]; frame_out; rfl

/-- A buffer at an index of the last rectangle stored there. -/
theorem stored_at {s : Shape} {e : EltTy} (r : Rect s) (P : r.shape.Idx → Elt Ideal e) (L : List (View.Piece (Elt Ideal) s e)) (j : s.Idx)
    (x : r.shape.Idx) (h : j = r.emb x) : View.canon (⟨r, P⟩ :: L) j = P x := by
  subst h
  exact View.canon_cons_emb r P L x

/-- The last sixteen rows of the scratch are the last sixteen of the 1024 rows just stored there. -/
theorem held {κ : Kind} {sp : Space} (v : View sig κ sp S1040x256 .f32) (P : Vec Ideal S1024x256 .f32)
    (L : List (View.Piece (Elt Ideal) S1040x256 .f32)) (r : Fin 16) (n : Fin 256) :
    (v.readCov (⟨Rect.unit (s := S1040x256) ![16, 0] ![1024, 256] inb_S1040x256_S1024x256_16_0, P⟩ :: L)
        (Rect.unit (s := S1040x256) ![1024, 0] ![16, 256] inb_S1040x256_S16x256_1024_0).toLoadRect : Vec Ideal S16x256 .f32) (ix2 r n)
      = P (ix2 ⟨1008 + r.val, by omega⟩ n) := by
  rw [View.readCov_eq_canon']
  have e : (Rect.unit (s := S1040x256) ![1024, 0] ![16, 256] inb_S1040x256_S16x256_1024_0).toLoadRect.idx (ix2 r n)
      = (Rect.unit (s := S1040x256) ![16, 0] ![1024, 256] inb_S1040x256_S1024x256_16_0).emb (ix2 (⟨1008 + r.val, by omega⟩ : Fin 1024) n) := by
    funext a
    match a with
    | ⟨0, _⟩ => exact Fin.ext (by show 1024 + 1 * r.val = 16 + 1 * (1008 + r.val); omega)
    | ⟨1, _⟩ => exact Fin.ext (by show 0 + 1 * n.val = 0 + 1 * n.val; omega)
  exact stored_at (Rect.unit (s := S1040x256) ![16, 0] ![1024, 256] inb_S1040x256_S1024x256_16_0) P L _ _ e

theorem left_hist (c : Dev nD) (t : Fin cfg0.N) (r : Fin 16) (n : Fin 256) : ((dats m 0 c).after 13 t : Vec Ideal S1x16x256 .f32) (ix3 0 r n)
    = cell (fun k => (iblk m c 0 t : Vec Ideal S1024x1024 .f32) (ix2 ⟨1008 + r.val, by omega⟩ k))
        (fun k l => (iblk m c 1 t : Vec Ideal S1024x2304 .bf16) (ix2 k l)) ⟨n.val, by omega⟩ := by
  rw [after0_13]
  by_cases h0 : t.val % 4 = 0
  · rw [outsAt0_A m c t h0]; frame_out
    rw [pay_hist]
    exact (held _ _ _ r n).trans (pay_rows _ _ _ _)
  · rw [outsAt0_B m c t h0]; frame_out
    rw [pay_hist]
    exact (held _ _ _ r n).trans (pay_rows _ _ _ _)

/-! ## The arrays after the run -/

theorem final_q (c : Dev nD) : (dats m 0 c).arrAt 9 cfg0.N
    = Q (m ((c : Thread nD τ).loc main_arg0)) (m ((c : Thread nD τ).loc main_arg1)) := by
  refine (dats m 0 c).arrAt_eq_of_covers 9 _ (by decide +kernel) fun t _ y => ?_
  blk_simp
  rw [left_q]
  have hN : t.val < 32 := t.isLt
  have hy0 : (y 0).val < 1024 := (y 0).isLt
  have hy : y = ix2 (y 0) (y 1) := eq_ix2 (y : S1024x512.Idx)
  refine (congrArg _ hy).trans ?_
  refine (pay_q _ _ _ _).trans ?_
  have e0 : ((cfg0.win 9).blk t).view.emb y 0 = (⟨t.val * 1024 + (y 0).val, by omega⟩ : Fin 32768) := Fin.ext (by blk_simp [idx t])
  have e1 : ((cfg0.win 9).blk t).view.emb y 1 = y 1 := Fin.ext (by blk_simp [idx t])
  unfold Q
  rw [e0, e1]
  exact congrArg (· * eighth) (cell_point m c t _ _ _ _ (by dsimp only; omega))

theorem final_k (c : Dev nD) : (dats m 0 c).arrAt 12 cfg0.N
    = K (m ((c : Thread nD τ).loc main_arg0)) (m ((c : Thread nD τ).loc main_arg1)) := by
  refine (dats m 0 c).arrAt_eq_of_covers 12 _ (by decide +kernel) fun t _ y => ?_
  blk_simp
  rw [left_k]
  have hN : t.val < 32 := t.isLt
  have hy0 : (y 0).val < 1024 := (y 0).isLt
  have hy : y = ix2 (y 0) (y 1) := eq_ix2 (y : S1024x512.Idx)
  refine (congrArg _ hy).trans ?_
  refine (pay_k _ _ _ _).trans ?_
  have e0 : ((cfg0.win 12).blk t).view.emb y 0 = (⟨t.val * 1024 + (y 0).val, by omega⟩ : Fin 32768) := Fin.ext (by blk_simp [idx t])
  have e1 : ((cfg0.win 12).blk t).view.emb y 1 = y 1 := Fin.ext (by blk_simp [idx t])
  unfold K
  rw [e0, e1]
  exact cell_point m c t _ _ _ _ (by dsimp only; omega)

theorem eq_ix5_unit (y : S1x1x8x64x1024.Idx) : y = ix5 0 0 (y 2) (y 3) (y 4) := by
  have hz : ∀ a : Fin 1, a = 0 := fun a => Subsingleton.elim a 0
  funext a
  match a with
  | ⟨0, _⟩ => exact hz _
  | ⟨1, _⟩ => exact hz _
  | ⟨2, _⟩ => rfl
  | ⟨3, _⟩ => rfl
  | ⟨4, _⟩ => rfl

theorem final_kt (c : Dev nD) : (dats m 0 c).arrAt 10 cfg0.N
    = KT (m ((c : Thread nD τ).loc main_arg0)) (m ((c : Thread nD τ).loc main_arg1)) := by
  refine (dats m 0 c).arrAt_eq_of_covers 10 _ (by decide +kernel) fun t _ y => ?_
  blk_simp
  rw [left_kt]
  have hN : t.val < 32 := t.isLt
  have hy4 : (y 4).val < 1024 := (y 4).isLt
  have hy1 : (y 1).val < 1 := (y 1).isLt
  refine (congrArg _ (eq_ix5_unit y)).trans ?_
  refine (pay_kt _ _ _ _ _).trans ?_
  have e1 : ((cfg0.win 10).blk t).view.emb y 1 = (⟨t.val / 4, by omega⟩ : Fin 8) := Fin.ext (by blk_simp [idx t])
  have e2 : ((cfg0.win 10).blk t).view.emb y 2 = y 2 := Fin.ext (by blk_simp [idx t])
  have e3 : ((cfg0.win 10).blk t).view.emb y 3 = y 3 := Fin.ext (by blk_simp [idx t])
  have e4 : ((cfg0.win 10).blk t).view.emb y 4 = (⟨t.val % 4 * 1024 + (y 4).val, by omega⟩ : Fin 4096) := Fin.ext (by blk_simp [idx t])
  unfold KT
  rw [e1, e2, e3, e4]
  exact cell_point m c t _ _ _ _ (by dsimp only; omega)

theorem final_vt (c : Dev nD) : (dats m 0 c).arrAt 11 cfg0.N
    = VT (m ((c : Thread nD τ).loc main_arg0)) (m ((c : Thread nD τ).loc main_arg1)) := by
  refine (dats m 0 c).arrAt_eq_of_covers 11 _ (by decide +kernel) fun t _ y => ?_
  blk_simp
  rw [left_vt]
  have hN : t.val < 32 := t.isLt
  have hy4 : (y 4).val < 1024 := (y 4).isLt
  have hy1 : (y 1).val < 1 := (y 1).isLt
  refine (congrArg _ (eq_ix5_unit y)).trans ?_
  refine (pay_vt _ _ _ _ _).trans ?_
  have e1 : ((cfg0.win 11).blk t).view.emb y 1 = (⟨t.val / 4, by omega⟩ : Fin 8) := Fin.ext (by blk_simp [idx t])
  have e2 : ((cfg0.win 11).blk t).view.emb y 2 = y 2 := Fin.ext (by blk_simp [idx t])
  have e3 : ((cfg0.win 11).blk t).view.emb y 3 = y 3 := Fin.ext (by blk_simp [idx t])
  have e4 : ((cfg0.win 11).blk t).view.emb y 4 = (⟨t.val % 4 * 1024 + (y 4).val, by omega⟩ : Fin 4096) := Fin.ext (by blk_simp [idx t])
  unfold VT
  rw [e1, e2, e3, e4]
  exact cell_point m c t _ _ _ _ (by dsimp only; omega)

theorem final_hist (c : Dev nD) : (dats m 0 c).arrAt 13 cfg0.N
    = H (m ((c : Thread nD τ).loc main_arg0)) (m ((c : Thread nD τ).loc main_arg1)) := by
  refine (dats m 0 c).arrAt_eq_of_covers 13 _ (by decide +kernel) fun t hf y => ?_
  have hq : t.val % 4 = 3 := (flush0_13 t).mp hf
  blk_simp
  have hN : t.val < 32 := t.isLt
  have hz : ∀ a : Fin 1, a = 0 := fun a => Subsingleton.elim a 0
  have hy : y = ix3 0 (y 1) (y 2) := (eq_ix3 (y : S1x16x256.Idx)).trans (congrArg (fun a : Fin 1 => ix3 a (y 1) (y 2)) (hz (y 0)))
  refine (congrArg _ hy).trans ?_
  refine (left_hist m c t _ _).trans ?_
  have e0 : ((cfg0.win 13).blk t).view.emb y 0 = (⟨t.val / 4, by omega⟩ : Fin 8) := Fin.ext (by blk_simp [idx t])
  have e1 : ((cfg0.win 13).blk t).view.emb y 1 = y 1 := Fin.ext (by blk_simp [idx t])
  have e2 : ((cfg0.win 13).blk t).view.emb y 2 = y 2 := Fin.ext (by blk_simp [idx t])
  unfold H
  rw [e0, e1, e2]
  exact cell_point m c t _ _ _ _ (by dsimp only; omega)

end Kernel

end Cert.InputValues

end
-- ==== Proof.Values.InputReference.lean ====
/- The reference's projections, an entry at a time. -/
module

public import proofs.«01_k».proof.Proof.Gen.Reference6Ideal.Read
public import proofs.«01_k».proof.Proof.Values.InputKernel

@[expose] public section

set_option maxRecDepth 16384

noncomputable section

namespace Cert.InputValues

open Idealize.ShloMosaic Idealize.ShloMosaic.TcCoe Idealize.SL.Sem
open Cert.Reference6Ideal Cert.Reference6Ideal.Read

variable (x0 : FVec Ideal S8x4096x1024 .f32) (x1 : FVec Ideal S1024x2304 .f32)

theorem ref_q (r : Fin 32768) (n : Fin 512) : val_main_v8 (F := Ideal) x0 x1 (ix2 r n) = query x0 x1 r n := by
  pointwise [val_main_v8, val_main_v7, val_main_v6, val_main_v5, val_main_cst, val_main_v2, val_main_v1, val_main_v0, query, entry, cell, eighth]

theorem ref_k (r : Fin 32768) (n : Fin 512) : val_main_v14 (F := Ideal) x0 x1 (ix2 r n) = key x0 x1 r n := by
  pointwise [val_main_v14, val_main_v13, val_main_v3, val_main_v1, val_main_v0, key, entry, cell]
  refine Finset.sum_congr rfl fun k _ => congrArg (fun l => x0 (ix3 _ _ k) * x1 (ix2 k l)) (Fin.ext ?_)
  dsimp only
  omega

theorem ref_kt (b a : Fin 8) (d : Fin 64) (s : Fin 4096) : val_main_v10 (F := Ideal) x0 x1 (ix5 0 b a d s) = headKey x0 x1 b a d s := by
  pointwise [val_main_v10, val_main_v9, val_main_v3, val_main_v1, val_main_v0, headKey, entry, cell]
  refine Finset.sum_congr rfl fun k _ => congrArg (fun l => x0 (ix3 b s k) * x1 (ix2 k l)) (Fin.ext ?_)
  dsimp only
  omega

theorem ref_vt (b a : Fin 8) (d : Fin 64) (s : Fin 4096) : val_main_v12 (F := Ideal) x0 x1 (ix5 0 b a d s) = headValue x0 x1 b a d s := by
  pointwise [val_main_v12, val_main_v11, val_main_v4, val_main_v1, val_main_v0, headValue, entry, cell]
  refine Finset.sum_congr rfl fun k _ => congrArg (fun l => x0 (ix3 b s k) * x1 (ix2 k l)) (Fin.ext ?_)
  dsimp only
  omega

theorem ref_hist (b : Fin 8) (r : Fin 16) (n : Fin 256) : val_main_v15 (F := Ideal) x0 x1 (ix3 b r n) = past x0 x1 b r n := by
  pointwise [val_main_v15, val_main_v0, past, entry, cell]

theorem eq_ix5_first (y : S1x8x8x64x4096.Idx) : y = ix5 0 (y 1) (y 2) (y 3) (y 4) := by
  funext a
  match a with
  | ⟨0, _⟩ => exact (fun a : Fin 1 => Subsingleton.elim a 0) _
  | ⟨1, _⟩ => rfl
  | ⟨2, _⟩ => rfl
  | ⟨3, _⟩ => rfl
  | ⟨4, _⟩ => rfl

/-- The reference's arrays are the functions of its arguments. -/
theorem ref_Q : val_main_v8 (F := Ideal) x0 x1 = Q x0 x1 := by
  funext i; rw [eq_ix2 i]; exact ref_q x0 x1 (i 0) (i 1)

theorem ref_K : val_main_v14 (F := Ideal) x0 x1 = K x0 x1 := by
  funext i; rw [eq_ix2 i]; exact ref_k x0 x1 (i 0) (i 1)

theorem ref_KT : val_main_v10 (F := Ideal) x0 x1 = KT x0 x1 := by
  funext i; rw [eq_ix5_first i]; exact ref_kt x0 x1 (i 1) (i 2) (i 3) (i 4)

theorem ref_VT : val_main_v12 (F := Ideal) x0 x1 = VT x0 x1 := by
  funext i; rw [eq_ix5_first i]; exact ref_vt x0 x1 (i 1) (i 2) (i 3) (i 4)

theorem ref_H : val_main_v15 (F := Ideal) x0 x1 = H x0 x1 := by
  funext i; rw [eq_ix3 i]; exact ref_hist x0 x1 (i 0) (i 1) (i 2)

end Cert.InputValues

end
-- ==== Proof.Values.InputClaim.lean ====
/- The claims about the prompt's projections, from the kernel's arrays and the reference's arrays. -/
module

public import proofs.«01_k».proof.Defs
public import proofs.«01_k».proof.Proof.Gen.Kernel6.Frame
public import proofs.«01_k».proof.Proof.Gen.Reference6Ideal.Run
public import proofs.«01_k».proof.Proof.Values.InputKernel
public import proofs.«01_k».proof.Proof.Values.InputReference
public import Idealize.ShloMosaic.Lib.Claim

@[expose] public section

set_option maxRecDepth 16384

noncomputable section

namespace Cert.InputValues

open Idealize.ShloMosaic Idealize.ShloMosaic.TcCoe Idealize.SL.Sem

theorem frame_bits : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := by
  intro m ρ _
  refine (θ_run _ _ _).mono (fun r h => ⟨fun c => (h c).2.2.2.2.2, ?_⟩) (Cert.Reference6Ideal.Value.run m ρ)
  funext s
  exact match s with
    | (_, .reg s) => Fin.elim0 s
    | (_, .dma s) => Fin.elim0 s

theorem kernel_same : Cert.preserves_Kernel6_Kernel6Ideal := trivial

theorem algebraic : Cert.algebraic_Kernel6Ideal_Reference6Ideal := by
  pair_intro
  · run_from Cert.Kernel6Ideal.Value.run_blocks m g
  · run_from Cert.Reference6Ideal.Value.run m' g'
    · rw [final_q, Cert.Reference6Ideal.Read.val_main_v8_eq]
      exact ref_Q _ _
    · rw [final_kt, Cert.Reference6Ideal.Read.val_main_v10_eq]
      exact ref_KT _ _
    · rw [final_vt, Cert.Reference6Ideal.Read.val_main_v12_eq]
      exact ref_VT _ _
    · rw [final_k, Cert.Reference6Ideal.Read.val_main_v14_eq]
      exact ref_K _ _
    · rw [final_hist, Cert.Reference6Ideal.Read.val_main_v15_eq]
      exact ref_H _ _

end Cert.InputValues

end
-- ==== Proof.PageFrameIdeal.RunA.lean ====
/- The page call's body at a sequence's first step, run from its buffers' contents.

   The step takes the first branch and not the last: it begins the accumulator with the new positions. The pieces that the run
   writes are found by the run itself. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at a sequence's first step: what its stores leave in the output and in the accumulator, as pieces (last
    first), with the proof that the body, on whole buffers at the given contents, runs through, leaves its inputs as
    they were and writes those pieces. -/
noncomputable def kernelRun0_A (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : cond0_0 i) (hc1 : ¬cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) :
    Σ' (L36 : List (View.Piece (Elt F) S8x512 .f32)), { LS0 : List (View.Piece (Elt F) S64x512 .f32) //
      ∀ (xi36 : Vec F S8x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare xi36 ∗ (∃ d, owns (c : Thread nD τ) arg40 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare xi36 ∗ (∃ f, arg40.view.loc (c : Thread nD τ) ↦[arg40.view.set]{fullShare} arg40.view.writes (Elt F) f LS0) ∗ tbPt0 c tbM0_0 xt0) -∗ K ⟨⟩))
          ⊢ wp frame (wpE (defs₀ (F := F)) Variants.none c none) E (cc0_moba_decode_values i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨[], ?_, fun xi36 E K => ?run⟩
  case run =>
    simp only [cc0_moba_decode_values_eq_skeleton]; unfold cc0_moba_decode_values_skel
    simp only [k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%ds0, %fs0, -, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33; obtain rfl := harg37.eq_unread hf34; obtain rfl := harg38.eq_unread hf35; obtain rfl := harg39.eq_unread hf36
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]
    · iexists _; isplitr; · ipureintro; exact harg31.read_unread _
      iexact H28
    isplitl [H29]
    · iexists _; isplitr; · ipureintro; exact harg32.read_unread _
      iexact H29
    isplitl [H30]
    · iexists _; isplitr; · ipureintro; exact harg33.read_unread _
      iexact H30
    isplitl [H31]
    · iexists _; isplitr; · ipureintro; exact harg34.read_unread _
      iexact H31
    isplitl [H32]
    · iexists _; isplitr; · ipureintro; exact harg35.read_unread _
      iexact H32
    isplitl [H33]
    · iexists _; isplitr; · ipureintro; exact harg36.read_unread _
      iexact H33
    isplitl [H34]
    · iexists _; isplitr; · ipureintro; exact harg37.read_unread _
      iexact H34
    isplitl [H35]
    · iexists _; isplitr; · ipureintro; exact harg38.read_unread _
      iexact H35
    isplitl [H36]
    · iexists _; isplitr; · ipureintro; exact harg39.read_unread _
      iexact H36
    isplitl [HS0]; · iexists _; iexact HS0
    iexact HT0

end Cert.KernelIdeal.Gen

end
-- ==== Proof.PageFrameIdeal.RunB.lean ====
/- The page call's body at a sequence's middle step, run from its buffers' contents.

   The step takes neither branch: it adds 32 pages to the accumulator. The pieces that the run
   writes are found by the run itself. -/
module

public import proofs.«01_k».proof.Proof.PageFrameIdeal.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at a sequence's middle step: what its stores leave in the output and in the accumulator, as pieces (last
    first), with the proof that the body, on whole buffers at the given contents, runs through, leaves its inputs as
    they were and writes those pieces. -/
noncomputable def kernelRun0_B (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : ¬cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) :
    Σ' (L36 : List (View.Piece (Elt F) S8x512 .f32)), { LS0 : List (View.Piece (Elt F) S64x512 .f32) //
      ∀ (xi36 : Vec F S8x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare xi36 ∗ owns (c : Thread nD τ) arg40 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ owns (c : Thread nD τ) arg39 fullShare xi36 ∗ (∃ f, arg40.view.loc (c : Thread nD τ) ↦[arg40.view.set]{fullShare} arg40.view.writes (Elt F) f LS0) ∗ tbPt0 c tbM0_0 xt0) -∗ K ⟨⟩))
          ⊢ wp frame (wpE (defs₀ (F := F)) Variants.none c none) E (cc0_moba_decode_values i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨[], ?_, fun xi36 E K => ?run⟩
  case run =>
    simp only [cc0_moba_decode_values_eq_skeleton]; unfold cc0_moba_decode_values_skel
    simp only [k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33; obtain rfl := harg37.eq_unread hf34; obtain rfl := harg38.eq_unread hf35; obtain rfl := harg39.eq_unread hf36; obtain rfl := harg40.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]
    · iexists _; isplitr; · ipureintro; exact harg31.read_unread _
      iexact H28
    isplitl [H29]
    · iexists _; isplitr; · ipureintro; exact harg32.read_unread _
      iexact H29
    isplitl [H30]
    · iexists _; isplitr; · ipureintro; exact harg33.read_unread _
      iexact H30
    isplitl [H31]
    · iexists _; isplitr; · ipureintro; exact harg34.read_unread _
      iexact H31
    isplitl [H32]
    · iexists _; isplitr; · ipureintro; exact harg35.read_unread _
      iexact H32
    isplitl [H33]
    · iexists _; isplitr; · ipureintro; exact harg36.read_unread _
      iexact H33
    isplitl [H34]
    · iexists _; isplitr; · ipureintro; exact harg37.read_unread _
      iexact H34
    isplitl [H35]
    · iexists _; isplitr; · ipureintro; exact harg38.read_unread _
      iexact H35
    isplitl [H36]
    · iexists _; isplitr; · ipureintro; exact harg39.read_unread _
      iexact H36
    isplitl [HS0]; · iexists _; iexact HS0
    iexact HT0

end Cert.KernelIdeal.Gen

end
-- ==== Proof.PageFrameIdeal.RunC.lean ====
/- The page call's body at a sequence's last step, run from its buffers' contents.

   The step takes the last branch: it adds 32 pages and stores the output. The pieces that the run
   writes are found by the run itself. -/
module

public import proofs.«01_k».proof.Proof.PageFrameIdeal.RunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body at a sequence's last step: what its stores leave in the output and in the accumulator, as pieces (last
    first), with the proof that the body, on whole buffers at the given contents, runs through, leaves its inputs as
    they were and writes those pieces. -/
noncomputable def kernelRun0_C (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) :
    Σ' (L36 : List (View.Piece (Elt F) S8x512 .f32)), { LS0 : List (View.Piece (Elt F) S64x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ (∃ d, owns (c : Thread nD τ) arg39 fullShare d) ∗ owns (c : Thread nD τ) arg40 fullShare xs0 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare x17 ∗ owns (c : Thread nD τ) arg21 fullShare x18 ∗ owns (c : Thread nD τ) arg22 fullShare x19 ∗ owns (c : Thread nD τ) arg23 fullShare x20 ∗ owns (c : Thread nD τ) arg24 fullShare x21 ∗ owns (c : Thread nD τ) arg25 fullShare x22 ∗ owns (c : Thread nD τ) arg26 fullShare x23 ∗ owns (c : Thread nD τ) arg27 fullShare x24 ∗ owns (c : Thread nD τ) arg28 fullShare x25 ∗ owns (c : Thread nD τ) arg29 fullShare x26 ∗ owns (c : Thread nD τ) arg30 fullShare x27 ∗ owns (c : Thread nD τ) arg31 fullShare x28 ∗ owns (c : Thread nD τ) arg32 fullShare x29 ∗ owns (c : Thread nD τ) arg33 fullShare x30 ∗ owns (c : Thread nD τ) arg34 fullShare x31 ∗ owns (c : Thread nD τ) arg35 fullShare x32 ∗ owns (c : Thread nD τ) arg36 fullShare x33 ∗ owns (c : Thread nD τ) arg37 fullShare x34 ∗ owns (c : Thread nD τ) arg38 fullShare x35 ∗ (∃ f, arg39.view.loc (c : Thread nD τ) ↦[arg39.view.set]{fullShare} arg39.view.writes (Elt F) f L36) ∗ (∃ f, arg40.view.loc (c : Thread nD τ) ↦[arg40.view.set]{fullShare} arg40.view.writes (Elt F) f LS0) ∗ tbPt0 c tbM0_0 xt0) -∗ K ⟨⟩))
          ⊢ wp frame (wpE (defs₀ (F := F)) Variants.none c none) E (cc0_moba_decode_values i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40) K } := by
  refine ⟨?_, ?_, fun E K => ?run⟩
  case run =>
    simp only [cc0_moba_decode_values_eq_skeleton]; unfold cc0_moba_decode_values_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%d36, %f36, -, H36⟩, ⟨%fs0, %hfs0, HS0⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hf17; obtain rfl := harg21.eq_unread hf18; obtain rfl := harg22.eq_unread hf19; obtain rfl := harg23.eq_unread hf20; obtain rfl := harg24.eq_unread hf21; obtain rfl := harg25.eq_unread hf22; obtain rfl := harg26.eq_unread hf23; obtain rfl := harg27.eq_unread hf24; obtain rfl := harg28.eq_unread hf25; obtain rfl := harg29.eq_unread hf26; obtain rfl := harg30.eq_unread hf27; obtain rfl := harg31.eq_unread hf28; obtain rfl := harg32.eq_unread hf29; obtain rfl := harg33.eq_unread hf30; obtain rfl := harg34.eq_unread hf31; obtain rfl := harg35.eq_unread hf32; obtain rfl := harg36.eq_unread hf33; obtain rfl := harg37.eq_unread hf34; obtain rfl := harg38.eq_unread hf35; obtain rfl := harg40.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [H17]
    · iexists _; isplitr; · ipureintro; exact harg20.read_unread _
      iexact H17
    isplitl [H18]
    · iexists _; isplitr; · ipureintro; exact harg21.read_unread _
      iexact H18
    isplitl [H19]
    · iexists _; isplitr; · ipureintro; exact harg22.read_unread _
      iexact H19
    isplitl [H20]
    · iexists _; isplitr; · ipureintro; exact harg23.read_unread _
      iexact H20
    isplitl [H21]
    · iexists _; isplitr; · ipureintro; exact harg24.read_unread _
      iexact H21
    isplitl [H22]
    · iexists _; isplitr; · ipureintro; exact harg25.read_unread _
      iexact H22
    isplitl [H23]
    · iexists _; isplitr; · ipureintro; exact harg26.read_unread _
      iexact H23
    isplitl [H24]
    · iexists _; isplitr; · ipureintro; exact harg27.read_unread _
      iexact H24
    isplitl [H25]
    · iexists _; isplitr; · ipureintro; exact harg28.read_unread _
      iexact H25
    isplitl [H26]
    · iexists _; isplitr; · ipureintro; exact harg29.read_unread _
      iexact H26
    isplitl [H27]
    · iexists _; isplitr; · ipureintro; exact harg30.read_unread _
      iexact H27
    isplitl [H28]
    · iexists _; isplitr; · ipureintro; exact harg31.read_unread _
      iexact H28
    isplitl [H29]
    · iexists _; isplitr; · ipureintro; exact harg32.read_unread _
      iexact H29
    isplitl [H30]
    · iexists _; isplitr; · ipureintro; exact harg33.read_unread _
      iexact H30
    isplitl [H31]
    · iexists _; isplitr; · ipureintro; exact harg34.read_unread _
      iexact H31
    isplitl [H32]
    · iexists _; isplitr; · ipureintro; exact harg35.read_unread _
      iexact H32
    isplitl [H33]
    · iexists _; isplitr; · ipureintro; exact harg36.read_unread _
      iexact H33
    isplitl [H34]
    · iexists _; isplitr; · ipureintro; exact harg37.read_unread _
      iexact H34
    isplitl [H35]
    · iexists _; isplitr; · ipureintro; exact harg38.read_unread _
      iexact H35
    isplitl [H36]; · iexists _; iexact H36
    isplitl [HS0]; · iexists _; iexact HS0
    iexact HT0

end Cert.KernelIdeal.Gen

end
-- ==== Proof.PageFrameIdeal.Outs.lean ====
/- What the page call's body leaves after each grid point, and the launch's data.

   Per case (first, middle, last step of a sequence) the accumulator and the output, then both point by point, and the
   data that the pipeline is started with. -/
module

public import proofs.«01_k».proof.Proof.PageFrameIdeal.RunC
public import Idealize.ShloMosaic.Lib.Claim

@[expose] public section

set_option maxRecDepth 16384
set_option maxHeartbeats 0

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At the first step nothing is stored into the output. -/
def out0_A_36 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : cond0_0 i) (hc1 : ¬cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) : Vec F S8x512 .f32 :=
  VO0_36.read (Elt F) (VO0_36.writes (Elt F) VO0_36.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0).1)

/-- The pieces of the first step cover the accumulator. -/
theorem scover0_A_0 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : cond0_0 i) (hc1 : ¬cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (y : S64x512.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0).2.1 S64x512.size (by sl_kernel_rfl) y

/-- The accumulator after the first step. -/
def sout0_A_0 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : cond0_0 i) (hc1 : ¬cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) : Vec F S64x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0).2.1)

/-- At a middle step nothing is stored into the output. -/
def out0_B_36 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : ¬cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) : Vec F S8x512 .f32 :=
  VO0_36.read (Elt F) (VO0_36.writes (Elt F) VO0_36.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).1)

/-- The pieces of a middle step cover the accumulator. -/
theorem scover0_B_0 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : ¬cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) (y : S64x512.Idx) :
    ∃ pc ∈ (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).2.1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).2.1 S64x512.size (by sl_kernel_rfl) y

/-- The accumulator after a middle step. -/
def sout0_B_0 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : ¬cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) : Vec F S64x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).2.1)

/-- The pieces of the last step cover the output's block. -/
theorem cover0_C_36 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) (y : S8x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).1 S8x512.size (by sl_kernel_rfl) y

/-- The output's block after the last step. -/
def out0_C_36 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) : Vec F S8x512 .f32 :=
  VO0_36.read (Elt F) (VO0_36.writes (Elt F) VO0_36.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).1)

/-- The pieces of the last step cover the accumulator. -/
theorem scover0_C_0 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) (y : S64x512.Idx) :
    ∃ pc ∈ (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).2.1 S64x512.size (by sl_kernel_rfl) y

/-- The accumulator after the last step. -/
def sout0_C_0 (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : cond0_1 i)
    (x0 : Vec F S1x32x64x128 .bf16) (x1 : Vec F S1x64x128 .bf16) (x2 : Vec F S1x64x128 .f32) (x3 : Vec F S8x512 .f32) (x4 : Vec F S1x512x128 .f32) (x5 : Vec F S1x512x128 .f32) (x6 : Vec F S1x512x128 .f32) (x7 : Vec F S1x512x128 .f32) (x8 : Vec F S1x512x128 .f32) (x9 : Vec F S1x512x128 .f32) (x10 : Vec F S1x512x128 .f32) (x11 : Vec F S1x512x128 .f32) (x12 : Vec F S1x512x128 .f32) (x13 : Vec F S1x512x128 .f32) (x14 : Vec F S1x512x128 .f32) (x15 : Vec F S1x512x128 .f32) (x16 : Vec F S1x512x128 .f32) (x17 : Vec F S1x512x128 .f32) (x18 : Vec F S1x512x128 .f32) (x19 : Vec F S1x512x128 .f32) (x20 : Vec F S1x512x128 .f32) (x21 : Vec F S1x512x128 .f32) (x22 : Vec F S1x512x128 .f32) (x23 : Vec F S1x512x128 .f32) (x24 : Vec F S1x512x128 .f32) (x25 : Vec F S1x512x128 .f32) (x26 : Vec F S1x512x128 .f32) (x27 : Vec F S1x512x128 .f32) (x28 : Vec F S1x512x128 .f32) (x29 : Vec F S1x512x128 .f32) (x30 : Vec F S1x512x128 .f32) (x31 : Vec F S1x512x128 .f32) (x32 : Vec F S1x512x128 .f32) (x33 : Vec F S1x512x128 .f32) (x34 : Vec F S1x512x128 .f32) (x35 : Vec F S1x512x128 .f32) (xt0 : TbBuf0 (F := F) c tbM0_0) (xs0 : Vec F S64x512 .f32) : Vec F S64x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0).2.1)

/-! ## What the outputs hold after each point -/

/-- What the first step of a sequence leaves: nothing new in the output, the accumulator begun. -/
def stepA (hO : Ok m) (c : Dev nD) (t : Fin (cfgM m hO).N) (h0 : t.val % 4 = 0) (h1 : ¬t.val % 4 = 3) :
    Vec F S8x512 .f32 × Vec F S64x512 .f32 :=
  (out0_A_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0))

/-- What a middle step leaves, from the accumulator `xs`. -/
def stepB (hO : Ok m) (c : Dev nD) (t : Fin (cfgM m hO).N) (h0 : ¬t.val % 4 = 0) (h1 : ¬t.val % 4 = 3)
    (xs : Vec F S64x512 .f32) : Vec F S8x512 .f32 × Vec F S64x512 .f32 :=
  (out0_B_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) xs, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) xs)

/-- What a sequence's last step leaves, from the accumulator `xs`: the accumulator and the output. -/
def stepC (hO : Ok m) (c : Dev nD) (t : Fin (cfgM m hO).N) (h0 : ¬t.val % 4 = 0) (h1 : t.val % 4 = 3)
    (xs : Vec F S64x512 .f32) : Vec F S8x512 .f32 × Vec F S64x512 .f32 :=
  (out0_C_36 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) xs, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) xs)

/-- What the output's buffer and the accumulator hold after position `n`: four steps a sequence. -/
def outsAt0 (hO : Ok m) (c : Dev nD) : (n : ℕ) → n < (cfgM m hO).N → Vec F S8x512 .f32 × Vec F S64x512 .f32
  | 0, hn => stepA m hO c ⟨0, hn⟩ (Nat.zero_mod 4) (by show ¬(0 % 4 = 3); omega)
  | n + 1, hn =>
    if h0 : (n + 1) % 4 = 0 then stepA m hO c ⟨n + 1, hn⟩ h0 (by show ¬((n + 1) % 4 = 3); omega)
    else if h1 : (n + 1) % 4 = 3 then stepC m hO c ⟨n + 1, hn⟩ h0 h1 (outsAt0 hO c n (Nat.lt_of_succ_lt hn)).2
    else stepB m hO c ⟨n + 1, hn⟩ h0 h1 (outsAt0 hO c n (Nat.lt_of_succ_lt hn)).2

/-- `outsAt0` at a sequence's first step. -/
theorem outsAt0_A (hO : Ok m) (c : Dev nD) (t : Fin (cfgM m hO).N) (h0 : t.val % 4 = 0) (h1 : ¬t.val % 4 = 3) :
    outsAt0 m hO c t.val t.isLt = stepA m hO c t h0 h1 := by
  obtain ⟨n, hn⟩ := t
  cases n with
  | zero => rw [outsAt0]
  | succ n => rw [outsAt0]; exact dif_pos h0

/-- `outsAt0` at a middle step. -/
theorem outsAt0_B (hO : Ok m) (c : Dev nD) (t : Fin (cfgM m hO).N) (h0 : ¬t.val % 4 = 0) (h1 : ¬t.val % 4 = 3) :
    outsAt0 m hO c t.val t.isLt
      = stepB m hO c t h0 h1 (outsAt0 m hO c (t.val - 1) (Nat.lt_of_le_of_lt (Nat.sub_le _ _) t.isLt)).2 := by
  obtain ⟨n, hn⟩ := t
  cases n with
  | zero => exact absurd (Nat.zero_mod 4) h0
  | succ n => rw [outsAt0]; exact (dif_neg h0).trans (dif_neg h1)

/-- `outsAt0` at a sequence's last step. -/
theorem outsAt0_C (hO : Ok m) (c : Dev nD) (t : Fin (cfgM m hO).N) (h0 : ¬t.val % 4 = 0) (h1 : t.val % 4 = 3) :
    outsAt0 m hO c t.val t.isLt
      = stepC m hO c t h0 h1 (outsAt0 m hO c (t.val - 1) (Nat.lt_of_le_of_lt (Nat.sub_le _ _) t.isLt)).2 := by
  obtain ⟨n, hn⟩ := t
  cases n with
  | zero => exact absurd (Nat.zero_mod 4) h0
  | succ n => rw [outsAt0]; exact (dif_neg h0).trans (dif_pos h1)

/-- The invariant before position `n`: the accumulator holds what the point before left, at the first point anything; the tables are the page table's. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- The invariant after point `n`: the accumulator at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-! ## The pipeline's proof data -/

/-- What the pipeline is started with on core `c`: the arrays as it finds them, and what each buffer holds before and after the body at each point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => (outsAt0 m hO c t.val t.isLt).1
    | ⟨_ + 37, h⟩ => absurd h (Nat.not_lt.2 (Nat.le_add_left _ _))
  Φ t := PhiS m hO c t.val (Nat.le_of_lt_succ t.isLt)
  q w := Pipeline.shareOf spec0 w
  owed _ := 0

/-- The arrays are those that the pipeline finds. -/
theorem A_eq (hO : Ok m) (c : Dev nD) (w : Fin (cfgM m hO).W) : (dats m hO 0 c).A w = V m c (Pipeline.arrRef spec0 w) := by
  dsimp only [dats]

/-- The invariant at a point's start, by the point's number. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = iblk m hO c 14 t := by dsimp only [dats]; try rfl
theorem after0_15 (hO : Ok m) (c : Dev nD) (t : Fin (cfgM m hO).N) : (dats m hO 0 c).after 15 t = iblk m hO c 15 t := by dsimp only [dats]; try rfl
theorem after0_16 (hO : Ok m) (c : Dev nD) (t : Fin (cfgM m hO).N) : (dats m hO 0 c).after 16 t = iblk m hO c 16 t := by dsimp only [dats]; try rfl
theorem after0_17 (hO : Ok m) (c : Dev nD) (t : Fin (cfgM m hO).N) : (dats m hO 0 c).after 17 t = iblk m hO c 17 t := by dsimp only [dats]; try rfl
theorem after0_18 (hO : Ok m) (c : Dev nD) (t : Fin (cfgM m hO).N) : (dats m hO 0 c).after 18 t = iblk m hO c 18 t := by dsimp only [dats]; try rfl
theorem after0_19 (hO : Ok m) (c : Dev nD) (t : Fin (cfgM m hO).N) : (dats m hO 0 c).after 19 t = iblk m hO c 19 t := by dsimp only [dats]; try rfl
theorem after0_20 (hO : Ok m) (c : Dev nD) (t : Fin (cfgM m hO).N) : (dats m hO 0 c).after 20 t = iblk m hO c 20 t := by dsimp only [dats]; try rfl
theorem after0_21 (hO : Ok m) (c : Dev nD) (t : Fin (cfgM m hO).N) : (dats m hO 0 c).after 21 t = iblk m hO c 21 t := by dsimp only [dats]; try rfl
theorem after0_22 (hO : Ok m) (c : Dev nD) (t : Fin (cfgM m hO).N) : (dats m hO 0 c).after 22 t = iblk m hO c 22 t := by dsimp only [dats]; try rfl
theorem after0_23 (hO : Ok m) (c : Dev nD) (t : Fin (cfgM m hO).N) : (dats m hO 0 c).after 23 t = iblk m hO c 23 t := by dsimp only [dats]; try rfl
theorem after0_24 (hO : Ok m) (c : Dev nD) (t : Fin (cfgM m hO).N) : (dats m hO 0 c).after 24 t = iblk m hO c 24 t := by dsimp only [dats]; try rfl
theorem after0_25 (hO : Ok m) (c : Dev nD) (t : Fin (cfgM m hO).N) : (dats m hO 0 c).after 25 t = iblk m hO c 25 t := by dsimp only [dats]; try rfl
theorem after0_26 (hO : Ok m) (c : Dev nD) (t : Fin (cfgM m hO).N) : (dats m hO 0 c).after 26 t = iblk m hO c 26 t := by dsimp only [dats]; try rfl
theorem after0_27 (hO : Ok m) (c : Dev nD) (t : Fin (cfgM m hO).N) : (dats m hO 0 c).after 27 t = iblk m hO c 27 t := by dsimp only [dats]; try rfl
theorem after0_28 (hO : Ok m) (c : Dev nD) (t : Fin (cfgM m hO).N) : (dats m hO 0 c).after 28 t = iblk m hO c 28 t := by dsimp only [dats]; try rfl
theorem after0_29 (hO : Ok m) (c : Dev nD) (t : Fin (cfgM m hO).N) : (dats m hO 0 c).after 29 t = iblk m hO c 29 t := by dsimp only [dats]; try rfl
theorem after0_30 (hO : Ok m) (c : Dev nD) (t : Fin (cfgM m hO).N) : (dats m hO 0 c).after 30 t = iblk m hO c 30 t := by dsimp only [dats]; try rfl
theorem after0_31 (hO : Ok m) (c : Dev nD) (t : Fin (cfgM m hO).N) : (dats m hO 0 c).after 31 t = iblk m hO c 31 t := by dsimp only [dats]; try rfl
theorem after0_32 (hO : Ok m) (c : Dev nD) (t : Fin (cfgM m hO).N) : (dats m hO 0 c).after 32 t = iblk m hO c 32 t := by dsimp only [dats]; try rfl
theorem after0_33 (hO : Ok m) (c : Dev nD) (t : Fin (cfgM m hO).N) : (dats m hO 0 c).after 33 t = iblk m hO c 33 t := by dsimp only [dats]; try rfl
theorem after0_34 (hO : Ok m) (c : Dev nD) (t : Fin (cfgM m hO).N) : (dats m hO 0 c).after 34 t = iblk m hO c 34 t := by dsimp only [dats]; try rfl
theorem after0_35 (hO : Ok m) (c : Dev nD) (t : Fin (cfgM m hO).N) : (dats m hO 0 c).after 35 t = iblk m hO c 35 t := by dsimp only [dats]; try rfl
theorem after0_36 (hO : Ok m) (c : Dev nD) (t : Fin (cfgM m hO).N) : (dats m hO 0 c).after 36 t = (outsAt0 m hO c t.val t.isLt).1 := by dsimp only [dats]; try rfl

/-- Each input's buffer holds its block at every point, fetched there or not. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d
theorem before0_34 (hO : Ok m) (c : Dev nD) (t : Fin (cfgM m hO).N) (d) : (dats m hO 0 c).before 34 t d = iblk m hO c 34 t :=
  before0_34_of m hO (dats m hO 0 c) (A_eq m hO c 34) (after0_34 m hO c) t d
theorem before0_35 (hO : Ok m) (c : Dev nD) (t : Fin (cfgM m hO).N) (d) : (dats m hO 0 c).before 35 t d = iblk m hO c 35 t :=
  before0_35_of m hO (dats m hO 0 c) (A_eq m hO c 35) (after0_35 m hO c) t d

end Cert.KernelIdeal.Gen

end
-- ==== Proof.PageFrameIdeal.Launch.lean ====
/- The page call's body, at every grid point, and the run of the whole launch.

   The body's obligation from the three runs, the run of the launch with what every array holds after it, and the frame. -/
module

public import proofs.«01_k».proof.Proof.PageFrameIdeal.Outs
public import Idealize.ShloMosaic.Lib.Claim

@[expose] public section

set_option maxRecDepth 16384
set_option maxHeartbeats 0

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d))
    ∗ (∃ d, owns (c : Thread nD τ) (ms0_36 m hO t) fullShare ((dats m hO 0 c).before 36 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t
    ∗ (dats m hO 0 c).leavesExact 10 t
    ∗ (dats m hO 0 c).leavesExact 11 t
    ∗ (dats m hO 0 c).leavesExact 12 t
    ∗ (dats m hO 0 c).leavesExact 13 t
    ∗ (dats m hO 0 c).leavesExact 14 t
    ∗ (dats m hO 0 c).leavesExact 15 t
    ∗ (dats m hO 0 c).leavesExact 16 t
    ∗ (dats m hO 0 c).leavesExact 17 t
    ∗ (dats m hO 0 c).leavesExact 18 t
    ∗ (dats m hO 0 c).leavesExact 19 t
    ∗ (dats m hO 0 c).leavesExact 20 t
    ∗ (dats m hO 0 c).leavesExact 21 t
    ∗ (dats m hO 0 c).leavesExact 22 t
    ∗ (dats m hO 0 c).leavesExact 23 t
    ∗ (dats m hO 0 c).leavesExact 24 t
    ∗ (dats m hO 0 c).leavesExact 25 t
    ∗ (dats m hO 0 c).leavesExact 26 t
    ∗ (dats m hO 0 c).leavesExact 27 t
    ∗ (dats m hO 0 c).leavesExact 28 t
    ∗ (dats m hO 0 c).leavesExact 29 t
    ∗ (dats m hO 0 c).leavesExact 30 t
    ∗ (dats m hO 0 c).leavesExact 31 t
    ∗ (dats m hO 0 c).leavesExact 32 t
    ∗ (dats m hO 0 c).leavesExact 33 t
    ∗ (dats m hO 0 c).leavesExact 34 t
    ∗ (dats m hO 0 c).leavesExact 35 t
    ∗ (dats m hO 0 c).leavesExact 36 t)

set_option maxHeartbeats 43200000 in
/-- The body at any point: the inputs' buffers hold their blocks, the point is a first, a middle or a last step, and the run of that step applies. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 128 := lt_of_lt_of_eq t.isLt (show (cfgM m hO).N = 128 from N_0)
  by_cases h0 : t.val % 4 = 0
  · by_cases h1 : t.val % 4 = 3
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [show (dats m hO 0 c).leavesExact 21 t = owns (c : Thread nD τ) (ms0_21 m hO t) fullShare ((dats m hO 0 c).after 21 t) from by
      unfold Dat.leavesExact; rw [liveAt0_21 m hO t]; try rfl, after0_21]
      rw [show (dats m hO 0 c).leavesExact 22 t = owns (c : Thread nD τ) (ms0_22 m hO t) fullShare ((dats m hO 0 c).after 22 t) from by
      unfold Dat.leavesExact; rw [liveAt0_22 m hO t]; try rfl, after0_22]
      rw [show (dats m hO 0 c).leavesExact 23 t = owns (c : Thread nD τ) (ms0_23 m hO t) fullShare ((dats m hO 0 c).after 23 t) from by
      unfold Dat.leavesExact; rw [liveAt0_23 m hO t]; try rfl, after0_23]
      rw [show (dats m hO 0 c).leavesExact 24 t = owns (c : Thread nD τ) (ms0_24 m hO t) fullShare ((dats m hO 0 c).after 24 t) from by
      unfold Dat.leavesExact; rw [liveAt0_24 m hO t]; try rfl, after0_24]
      rw [show (dats m hO 0 c).leavesExact 25 t = owns (c : Thread nD τ) (ms0_25 m hO t) fullShare ((dats m hO 0 c).after 25 t) from by
      unfold Dat.leavesExact; rw [liveAt0_25 m hO t]; try rfl, after0_25]
      rw [show (dats m hO 0 c).leavesExact 26 t = owns (c : Thread nD τ) (ms0_26 m hO t) fullShare ((dats m hO 0 c).after 26 t) from by
      unfold Dat.leavesExact; rw [liveAt0_26 m hO t]; try rfl, after0_26]
      rw [show (dats m hO 0 c).leavesExact 27 t = owns (c : Thread nD τ) (ms0_27 m hO t) fullShare ((dats m hO 0 c).after 27 t) from by
      unfold Dat.leavesExact; rw [liveAt0_27 m hO t]; try rfl, after0_27]
      rw [show (dats m hO 0 c).leavesExact 28 t = owns (c : Thread nD τ) (ms0_28 m hO t) fullShare ((dats m hO 0 c).after 28 t) from by
      unfold Dat.leavesExact; rw [liveAt0_28 m hO t]; try rfl, after0_28]
      rw [show (dats m hO 0 c).leavesExact 29 t = owns (c : Thread nD τ) (ms0_29 m hO t) fullShare ((dats m hO 0 c).after 29 t) from by
      unfold Dat.leavesExact; rw [liveAt0_29 m hO t]; try rfl, after0_29]
      rw [show (dats m hO 0 c).leavesExact 30 t = owns (c : Thread nD τ) (ms0_30 m hO t) fullShare ((dats m hO 0 c).after 30 t) from by
      unfold Dat.leavesExact; rw [liveAt0_30 m hO t]; try rfl, after0_30]
      rw [show (dats m hO 0 c).leavesExact 31 t = owns (c : Thread nD τ) (ms0_31 m hO t) fullShare ((dats m hO 0 c).after 31 t) from by
      unfold Dat.leavesExact; rw [liveAt0_31 m hO t]; try rfl, after0_31]
      rw [show (dats m hO 0 c).leavesExact 32 t = owns (c : Thread nD τ) (ms0_32 m hO t) fullShare ((dats m hO 0 c).after 32 t) from by
      unfold Dat.leavesExact; rw [liveAt0_32 m hO t]; try rfl, after0_32]
      rw [show (dats m hO 0 c).leavesExact 33 t = owns (c : Thread nD τ) (ms0_33 m hO t) fullShare ((dats m hO 0 c).after 33 t) from by
      unfold Dat.leavesExact; rw [liveAt0_33 m hO t]; try rfl, after0_33]
      rw [show (dats m hO 0 c).leavesExact 34 t = owns (c : Thread nD τ) (ms0_34 m hO t) fullShare ((dats m hO 0 c).after 34 t) from by
      unfold Dat.leavesExact; rw [liveAt0_34 m hO t]; try rfl, after0_34]
      rw [show (dats m hO 0 c).leavesExact 35 t = owns (c : Thread nD τ) (ms0_35 m hO t) fullShare ((dats m hO 0 c).after 35 t) from by
      unfold Dat.leavesExact; rw [liveAt0_35 m hO t]; try rfl, after0_35]
      rw [Dat.leavesExact_idle (dats m hO 0 c) 36 t (idleAt0_36_A m hO t ((hcond0_0 t).mpr h0) (fun h => h1 ((hcond0_1 t).mp h))) (noFlush0_36_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold stepA sout0_A_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        isplitl [H32]; · iexact H32
        isplitl [H33]; · iexact H33
        isplitl [H34]; · iexact H34
        isplitl [H35]; · iexact H35
        isplitl [H36]; · iexact H36
        isplitl [HS0]; · iexact HS0
        isplitl [HT0]; · iexact HT0
        iintro ⟨H0, H1, H2, H3, H4, H5, H6, H7, H8, H9, H10, H11, H12, H13, H14, H15, H16, H17, H18, H19, H20, H21, H22, H23, H24, H25, H26, H27, H28, H29, H30, H31, H32, H33, H34, H35, H36, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        isplitl [H32]; · iexact H32
        isplitl [H33]; · iexact H33
        isplitl [H34]; · iexact H34
        isplitl [H35]; · iexact H35
        iexists _; iexact H36
      · rw [PhiS_castSucc m hO c t, PhiS_pos m hO c _ _ hz, PhiT0_eq]
        rw [outsAt0_A m hO c t h0 h1]
        unfold stepA sout0_A_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
        iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        isplitl [H32]; · iexact H32
        isplitl [H33]; · iexact H33
        isplitl [H34]; · iexact H34
        isplitl [H35]; · iexact H35
        isplitl [H36]; · iexact H36
        isplitl [HS0]; · iexists _; iexact HS0
        isplitl [HT0]; · iexact HT0
        iintro ⟨H0, H1, H2, H3, H4, H5, H6, H7, H8, H9, H10, H11, H12, H13, H14, H15, H16, H17, H18, H19, H20, H21, H22, H23, H24, H25, H26, H27, H28, H29, H30, H31, H32, H33, H34, H35, H36, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        isplitl [H32]; · iexact H32
        isplitl [H33]; · iexact H33
        isplitl [H34]; · iexact H34
        isplitl [H35]; · iexact H35
        iexists _; iexact H36
  · by_cases h1 : t.val % 4 = 3
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [show (dats m hO 0 c).leavesExact 21 t = owns (c : Thread nD τ) (ms0_21 m hO t) fullShare ((dats m hO 0 c).after 21 t) from by
      unfold Dat.leavesExact; rw [liveAt0_21 m hO t]; try rfl, after0_21]
      rw [show (dats m hO 0 c).leavesExact 22 t = owns (c : Thread nD τ) (ms0_22 m hO t) fullShare ((dats m hO 0 c).after 22 t) from by
      unfold Dat.leavesExact; rw [liveAt0_22 m hO t]; try rfl, after0_22]
      rw [show (dats m hO 0 c).leavesExact 23 t = owns (c : Thread nD τ) (ms0_23 m hO t) fullShare ((dats m hO 0 c).after 23 t) from by
      unfold Dat.leavesExact; rw [liveAt0_23 m hO t]; try rfl, after0_23]
      rw [show (dats m hO 0 c).leavesExact 24 t = owns (c : Thread nD τ) (ms0_24 m hO t) fullShare ((dats m hO 0 c).after 24 t) from by
      unfold Dat.leavesExact; rw [liveAt0_24 m hO t]; try rfl, after0_24]
      rw [show (dats m hO 0 c).leavesExact 25 t = owns (c : Thread nD τ) (ms0_25 m hO t) fullShare ((dats m hO 0 c).after 25 t) from by
      unfold Dat.leavesExact; rw [liveAt0_25 m hO t]; try rfl, after0_25]
      rw [show (dats m hO 0 c).leavesExact 26 t = owns (c : Thread nD τ) (ms0_26 m hO t) fullShare ((dats m hO 0 c).after 26 t) from by
      unfold Dat.leavesExact; rw [liveAt0_26 m hO t]; try rfl, after0_26]
      rw [show (dats m hO 0 c).leavesExact 27 t = owns (c : Thread nD τ) (ms0_27 m hO t) fullShare ((dats m hO 0 c).after 27 t) from by
      unfold Dat.leavesExact; rw [liveAt0_27 m hO t]; try rfl, after0_27]
      rw [show (dats m hO 0 c).leavesExact 28 t = owns (c : Thread nD τ) (ms0_28 m hO t) fullShare ((dats m hO 0 c).after 28 t) from by
      unfold Dat.leavesExact; rw [liveAt0_28 m hO t]; try rfl, after0_28]
      rw [show (dats m hO 0 c).leavesExact 29 t = owns (c : Thread nD τ) (ms0_29 m hO t) fullShare ((dats m hO 0 c).after 29 t) from by
      unfold Dat.leavesExact; rw [liveAt0_29 m hO t]; try rfl, after0_29]
      rw [show (dats m hO 0 c).leavesExact 30 t = owns (c : Thread nD τ) (ms0_30 m hO t) fullShare ((dats m hO 0 c).after 30 t) from by
      unfold Dat.leavesExact; rw [liveAt0_30 m hO t]; try rfl, after0_30]
      rw [show (dats m hO 0 c).leavesExact 31 t = owns (c : Thread nD τ) (ms0_31 m hO t) fullShare ((dats m hO 0 c).after 31 t) from by
      unfold Dat.leavesExact; rw [liveAt0_31 m hO t]; try rfl, after0_31]
      rw [show (dats m hO 0 c).leavesExact 32 t = owns (c : Thread nD τ) (ms0_32 m hO t) fullShare ((dats m hO 0 c).after 32 t) from by
      unfold Dat.leavesExact; rw [liveAt0_32 m hO t]; try rfl, after0_32]
      rw [show (dats m hO 0 c).leavesExact 33 t = owns (c : Thread nD τ) (ms0_33 m hO t) fullShare ((dats m hO 0 c).after 33 t) from by
      unfold Dat.leavesExact; rw [liveAt0_33 m hO t]; try rfl, after0_33]
      rw [show (dats m hO 0 c).leavesExact 34 t = owns (c : Thread nD τ) (ms0_34 m hO t) fullShare ((dats m hO 0 c).after 34 t) from by
      unfold Dat.leavesExact; rw [liveAt0_34 m hO t]; try rfl, after0_34]
      rw [show (dats m hO 0 c).leavesExact 35 t = owns (c : Thread nD τ) (ms0_35 m hO t) fullShare ((dats m hO 0 c).after 35 t) from by
      unfold Dat.leavesExact; rw [liveAt0_35 m hO t]; try rfl, after0_35]
      rw [show (dats m hO 0 c).leavesExact 36 t = owns (c : Thread nD τ) (ms0_36 m hO t) fullShare ((dats m hO 0 c).after 36 t) from by
      unfold Dat.leavesExact; rw [liveAt0_36_C m hO t (fun h => h0 ((hcond0_0 t).mp h)) ((hcond0_1 t).mpr h1)]; try rfl, after0_36]
      by_cases hz : t.val = 0
      · exfalso; have hN : t.val < 128 := lt_of_lt_of_eq t.isLt (show (cfgM m hO).N = 128 from N_0); omega
      · rw [PhiS_castSucc m hO c t, PhiS_pos m hO c _ _ hz, PhiT0_eq]
        rw [outsAt0_C m hO c t h0 h1]
        unfold stepC out0_C_36 sout0_C_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
        iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        isplitl [H32]; · iexact H32
        isplitl [H33]; · iexact H33
        isplitl [H34]; · iexact H34
        isplitl [H35]; · iexact H35
        isplitl [H36]; · iexists _; iexact H36
        isplitl [HS0]; · iexact HS0
        isplitl [HT0]; · iexact HT0
        iintro ⟨H0, H1, H2, H3, H4, H5, H6, H7, H8, H9, H10, H11, H12, H13, H14, H15, H16, H17, H18, H19, H20, H21, H22, H23, H24, H25, H26, H27, H28, H29, H30, H31, H32, H33, H34, H35, ⟨%e36, H36⟩, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        isplitl [H32]; · iexact H32
        isplitl [H33]; · iexact H33
        isplitl [H34]; · iexact H34
        isplitl [H35]; · iexact H35
        unfold owns; iexists _; isplitr
        swap; · iexact H36
        ipureintro; exact View.read_writes_of_cover _ _ _ _ _ (cover0_C_36 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5 m hO t]; try rfl, after0_5]
      rw [show (dats m hO 0 c).leavesExact 6 t = owns (c : Thread nD τ) (ms0_6 m hO t) fullShare ((dats m hO 0 c).after 6 t) from by
      unfold Dat.leavesExact; rw [liveAt0_6 m hO t]; try rfl, after0_6]
      rw [show (dats m hO 0 c).leavesExact 7 t = owns (c : Thread nD τ) (ms0_7 m hO t) fullShare ((dats m hO 0 c).after 7 t) from by
      unfold Dat.leavesExact; rw [liveAt0_7 m hO t]; try rfl, after0_7]
      rw [show (dats m hO 0 c).leavesExact 8 t = owns (c : Thread nD τ) (ms0_8 m hO t) fullShare ((dats m hO 0 c).after 8 t) from by
      unfold Dat.leavesExact; rw [liveAt0_8 m hO t]; try rfl, after0_8]
      rw [show (dats m hO 0 c).leavesExact 9 t = owns (c : Thread nD τ) (ms0_9 m hO t) fullShare ((dats m hO 0 c).after 9 t) from by
      unfold Dat.leavesExact; rw [liveAt0_9 m hO t]; try rfl, after0_9]
      rw [show (dats m hO 0 c).leavesExact 10 t = owns (c : Thread nD τ) (ms0_10 m hO t) fullShare ((dats m hO 0 c).after 10 t) from by
      unfold Dat.leavesExact; rw [liveAt0_10 m hO t]; try rfl, after0_10]
      rw [show (dats m hO 0 c).leavesExact 11 t = owns (c : Thread nD τ) (ms0_11 m hO t) fullShare ((dats m hO 0 c).after 11 t) from by
      unfold Dat.leavesExact; rw [liveAt0_11 m hO t]; try rfl, after0_11]
      rw [show (dats m hO 0 c).leavesExact 12 t = owns (c : Thread nD τ) (ms0_12 m hO t) fullShare ((dats m hO 0 c).after 12 t) from by
      unfold Dat.leavesExact; rw [liveAt0_12 m hO t]; try rfl, after0_12]
      rw [show (dats m hO 0 c).leavesExact 13 t = owns (c : Thread nD τ) (ms0_13 m hO t) fullShare ((dats m hO 0 c).after 13 t) from by
      unfold Dat.leavesExact; rw [liveAt0_13 m hO t]; try rfl, after0_13]
      rw [show (dats m hO 0 c).leavesExact 14 t = owns (c : Thread nD τ) (ms0_14 m hO t) fullShare ((dats m hO 0 c).after 14 t) from by
      unfold Dat.leavesExact; rw [liveAt0_14 m hO t]; try rfl, after0_14]
      rw [show (dats m hO 0 c).leavesExact 15 t = owns (c : Thread nD τ) (ms0_15 m hO t) fullShare ((dats m hO 0 c).after 15 t) from by
      unfold Dat.leavesExact; rw [liveAt0_15 m hO t]; try rfl, after0_15]
      rw [show (dats m hO 0 c).leavesExact 16 t = owns (c : Thread nD τ) (ms0_16 m hO t) fullShare ((dats m hO 0 c).after 16 t) from by
      unfold Dat.leavesExact; rw [liveAt0_16 m hO t]; try rfl, after0_16]
      rw [show (dats m hO 0 c).leavesExact 17 t = owns (c : Thread nD τ) (ms0_17 m hO t) fullShare ((dats m hO 0 c).after 17 t) from by
      unfold Dat.leavesExact; rw [liveAt0_17 m hO t]; try rfl, after0_17]
      rw [show (dats m hO 0 c).leavesExact 18 t = owns (c : Thread nD τ) (ms0_18 m hO t) fullShare ((dats m hO 0 c).after 18 t) from by
      unfold Dat.leavesExact; rw [liveAt0_18 m hO t]; try rfl, after0_18]
      rw [show (dats m hO 0 c).leavesExact 19 t = owns (c : Thread nD τ) (ms0_19 m hO t) fullShare ((dats m hO 0 c).after 19 t) from by
      unfold Dat.leavesExact; rw [liveAt0_19 m hO t]; try rfl, after0_19]
      rw [show (dats m hO 0 c).leavesExact 20 t = owns (c : Thread nD τ) (ms0_20 m hO t) fullShare ((dats m hO 0 c).after 20 t) from by
      unfold Dat.leavesExact; rw [liveAt0_20 m hO t]; try rfl, after0_20]
      rw [show (dats m hO 0 c).leavesExact 21 t = owns (c : Thread nD τ) (ms0_21 m hO t) fullShare ((dats m hO 0 c).after 21 t) from by
      unfold Dat.leavesExact; rw [liveAt0_21 m hO t]; try rfl, after0_21]
      rw [show (dats m hO 0 c).leavesExact 22 t = owns (c : Thread nD τ) (ms0_22 m hO t) fullShare ((dats m hO 0 c).after 22 t) from by
      unfold Dat.leavesExact; rw [liveAt0_22 m hO t]; try rfl, after0_22]
      rw [show (dats m hO 0 c).leavesExact 23 t = owns (c : Thread nD τ) (ms0_23 m hO t) fullShare ((dats m hO 0 c).after 23 t) from by
      unfold Dat.leavesExact; rw [liveAt0_23 m hO t]; try rfl, after0_23]
      rw [show (dats m hO 0 c).leavesExact 24 t = owns (c : Thread nD τ) (ms0_24 m hO t) fullShare ((dats m hO 0 c).after 24 t) from by
      unfold Dat.leavesExact; rw [liveAt0_24 m hO t]; try rfl, after0_24]
      rw [show (dats m hO 0 c).leavesExact 25 t = owns (c : Thread nD τ) (ms0_25 m hO t) fullShare ((dats m hO 0 c).after 25 t) from by
      unfold Dat.leavesExact; rw [liveAt0_25 m hO t]; try rfl, after0_25]
      rw [show (dats m hO 0 c).leavesExact 26 t = owns (c : Thread nD τ) (ms0_26 m hO t) fullShare ((dats m hO 0 c).after 26 t) from by
      unfold Dat.leavesExact; rw [liveAt0_26 m hO t]; try rfl, after0_26]
      rw [show (dats m hO 0 c).leavesExact 27 t = owns (c : Thread nD τ) (ms0_27 m hO t) fullShare ((dats m hO 0 c).after 27 t) from by
      unfold Dat.leavesExact; rw [liveAt0_27 m hO t]; try rfl, after0_27]
      rw [show (dats m hO 0 c).leavesExact 28 t = owns (c : Thread nD τ) (ms0_28 m hO t) fullShare ((dats m hO 0 c).after 28 t) from by
      unfold Dat.leavesExact; rw [liveAt0_28 m hO t]; try rfl, after0_28]
      rw [show (dats m hO 0 c).leavesExact 29 t = owns (c : Thread nD τ) (ms0_29 m hO t) fullShare ((dats m hO 0 c).after 29 t) from by
      unfold Dat.leavesExact; rw [liveAt0_29 m hO t]; try rfl, after0_29]
      rw [show (dats m hO 0 c).leavesExact 30 t = owns (c : Thread nD τ) (ms0_30 m hO t) fullShare ((dats m hO 0 c).after 30 t) from by
      unfold Dat.leavesExact; rw [liveAt0_30 m hO t]; try rfl, after0_30]
      rw [show (dats m hO 0 c).leavesExact 31 t = owns (c : Thread nD τ) (ms0_31 m hO t) fullShare ((dats m hO 0 c).after 31 t) from by
      unfold Dat.leavesExact; rw [liveAt0_31 m hO t]; try rfl, after0_31]
      rw [show (dats m hO 0 c).leavesExact 32 t = owns (c : Thread nD τ) (ms0_32 m hO t) fullShare ((dats m hO 0 c).after 32 t) from by
      unfold Dat.leavesExact; rw [liveAt0_32 m hO t]; try rfl, after0_32]
      rw [show (dats m hO 0 c).leavesExact 33 t = owns (c : Thread nD τ) (ms0_33 m hO t) fullShare ((dats m hO 0 c).after 33 t) from by
      unfold Dat.leavesExact; rw [liveAt0_33 m hO t]; try rfl, after0_33]
      rw [show (dats m hO 0 c).leavesExact 34 t = owns (c : Thread nD τ) (ms0_34 m hO t) fullShare ((dats m hO 0 c).after 34 t) from by
      unfold Dat.leavesExact; rw [liveAt0_34 m hO t]; try rfl, after0_34]
      rw [show (dats m hO 0 c).leavesExact 35 t = owns (c : Thread nD τ) (ms0_35 m hO t) fullShare ((dats m hO 0 c).after 35 t) from by
      unfold Dat.leavesExact; rw [liveAt0_35 m hO t]; try rfl, after0_35]
      rw [Dat.leavesExact_idle (dats m hO 0 c) 36 t (idleAt0_36_B m hO t (fun h => h0 ((hcond0_0 t).mp h)) (fun h => h1 ((hcond0_1 t).mp h))) (noFlush0_36_B m hO t (fun h => h0 ((hcond0_0 t).mp h)) (fun h => h1 ((hcond0_1 t).mp h)))]
      by_cases hz : t.val = 0
      · exfalso; have hN : t.val < 128 := lt_of_lt_of_eq t.isLt (show (cfgM m hO).N = 128 from N_0); omega
      · rw [PhiS_castSucc m hO c t, PhiS_pos m hO c _ _ hz, PhiT0_eq]
        rw [outsAt0_B m hO c t h0 h1]
        unfold stepB sout0_B_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩⟩
        iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        isplitl [H32]; · iexact H32
        isplitl [H33]; · iexact H33
        isplitl [H34]; · iexact H34
        isplitl [H35]; · iexact H35
        isplitl [H36]; · iexact H36
        isplitl [HS0]; · iexact HS0
        isplitl [HT0]; · iexact HT0
        iintro ⟨H0, H1, H2, H3, H4, H5, H6, H7, H8, H9, H10, H11, H12, H13, H14, H15, H16, H17, H18, H19, H20, H21, H22, H23, H24, H25, H26, H27, H28, H29, H30, H31, H32, H33, H34, H35, H36, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        isplitl [H27]; · iexact H27
        isplitl [H28]; · iexact H28
        isplitl [H29]; · iexact H29
        isplitl [H30]; · iexact H30
        isplitl [H31]; · iexact H31
        isplitl [H32]; · iexact H32
        isplitl [H33]; · iexact H33
        isplitl [H34]; · iexact H34
        isplitl [H35]; · iexact H35
        iexists _; iexact H36

/-- The body that the launch calls at point `t` is this one. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands over is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives the buffers back, their contents forgotten. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 128 := N_0; omega)

/-! ## The run and the frame -/

set_option backward.isDefEq.respectTransparency.types false in
/-- The launch: every run of the program ends, with every semaphore counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- Every run from a memory with zero counters ends, and leaves the arguments and the result's array as the pipeline's data say. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame: every run ends without fault, the arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.KernelIdeal.Gen

end
-- ==== Proof.Values.PageOk.lean ====
/- The page table's words are pages of the cache.

   The precondition says of every word of the page table that it is at least 0 and less than 5120, as signed words. So the
   word read as a natural number is less than 5120, and every block of the cache that an index map takes from the table
   lies inside the cache. That is what the launch asks of the table's contents, for the program read at machine
   floats and for the program read at extended reals. -/
module

public import proofs.«01_k».proof.Defs
public import proofs.«01_k».proof.Proof.Gen.Pre_pages_in_cache
public import proofs.«01_k».proof.Proof.Gen.Kernel.Frame.Runs
public import proofs.«01_k».proof.Proof.Gen.KernelIdeal.Frame.Runs
public import Idealize.ShloMosaic.Lib.StableHlo.Predicate
public import Idealize.ShloMosaic.Lib.WordCmp

@[expose] public section

set_option maxRecDepth 16384

noncomputable section

namespace Cert.PageValues

open Idealize.ShloMosaic Idealize.ShloMosaic.TcCoe

/-- A word that is at least 0 and less than 5120 as a signed word is less than 5120 as a natural number. -/
theorem page_lt (v : BitVec 32)
    (h : IntOp.andi (IntOp.cmpi .sge v 0#32) (IntOp.cmpi .slt v 5120#32) = 1#1) : v.toNat < 5120 := by
  rw [WordCmp.cmpi_sge_eq, WordCmp.cmpi_slt_eq, WordCmp.andi_ofBool, WordCmp.ofBool_eq_one_iff, Bool.and_eq_true,
    decide_eq_true_eq, decide_eq_true_eq] at h
  obtain ⟨h0, h1⟩ := h
  have e0 : (0#32 : BitVec 32).toInt = 0 := by decide
  have e1 : (5120#32 : BitVec 32).toInt = 5120 := by decide
  rw [e0] at h0
  rw [e1] at h1
  rw [BitVec.toInt_eq_toNat_cond] at h0 h1
  split at h0 <;> omega

/-- One page of the cache, taken at word `v`, lies inside the cache. -/
theorem block_inside (v : BitVec 32) (hv : v.toNat < 5120) (a : Fin 3) :
    ((![(Scalar.addi 0#32 v).toNat, (0#32 : BitVec 32).toNat, (0#32 : BitVec 32).toNat] : Fin 3 → ℕ) a + 1)
      * (![1, 512, 128] : Fin 3 → ℕ) a ≤ (![10240, 512, 128] : Fin 3 → ℕ) a := by
  have e : (Scalar.addi 0#32 v).toNat = v.toNat := by
    show (0#32 + v).toNat = _
    rw [BitVec.zero_add]
  rw [e]
  match a with
  | ⟨0, _⟩ => show (v.toNat + 1) * 1 ≤ 10240; omega
  | ⟨1, _⟩ => show (0 + 1) * 512 ≤ 512; omega
  | ⟨2, _⟩ => show (0 + 1) * 128 ≤ 128; omega

variable {F : FTy → Type} [FloatOps F]

/-- Every page the printed program's index maps take is inside the cache. -/
theorem ok_of_lt (pf : Cert.Kernel.pre0.Contents (Elt F)) (h : ∀ x, (pf 0 x : BitVec 32).toNat < 5120) : Cert.Kernel.ok0 pf := by
  unfold Cert.Kernel.ok0
  repeat' apply And.intro
  all_goals exact fun i => ⟨block_inside _ (h _), Or.inl rfl⟩

/-- Every page the program at extended reals takes is inside the cache. -/
theorem ok_of_lt_ideal (pf : Cert.KernelIdeal.pre0.Contents (Elt F)) (h : ∀ x, (pf 0 x : BitVec 32).toNat < 5120) :
    Cert.KernelIdeal.ok0 pf := by
  unfold Cert.KernelIdeal.ok0
  repeat' apply And.intro
  all_goals exact fun i => ⟨block_inside _ (h _), Or.inl rfl⟩

/-- The precondition bounds the table the printed program reads. -/
theorem tbl_lt (m : (ℓ : Loc Cert.Kernel.nD Cert.Kernel.τ Cert.Kernel.sig) → Buf (Elt Bits) ℓ) (h : Cert.Pre_Kernel m)
    (x : Cert.Kernel.S32x128.Idx) : (Cert.Kernel.Gen.tbl m 0 x : BitVec 32).toNat < 5120 := by
  have e := congrFun (h 0) x
  exact page_lt _ e

/-- The precondition bounds the table the program at extended reals reads. -/
theorem tbl_lt_ideal (m : (ℓ : Loc Cert.KernelIdeal.nD Cert.KernelIdeal.τ Cert.KernelIdeal.sig) → Buf (Elt Ideal) ℓ)
    (h : Cert.Pre_KernelIdeal m) (x : Cert.KernelIdeal.S32x128.Idx) :
    (Cert.KernelIdeal.Gen.tbl m 0 x : BitVec 32).toNat < 5120 := by
  have e := congrFun (h 0) x
  exact page_lt _ e

/-- The launch's side condition on the table, of the printed program. -/
theorem ok_of_pre (m : (ℓ : Loc Cert.Kernel.nD Cert.Kernel.τ Cert.Kernel.sig) → Buf (Elt Bits) ℓ) (h : Cert.Pre_Kernel m) :
    Cert.Kernel.Gen.Ok m := ok_of_lt _ (tbl_lt m h)

/-- The launch's side condition on the table, of the program at extended reals. -/
theorem ok_of_pre_ideal (m : (ℓ : Loc Cert.KernelIdeal.nD Cert.KernelIdeal.τ Cert.KernelIdeal.sig) → Buf (Elt Ideal) ℓ)
    (h : Cert.Pre_KernelIdeal m) : Cert.KernelIdeal.Gen.Ok m := ok_of_lt_ideal _ (tbl_lt_ideal m h)

end Cert.PageValues

end
-- ==== Proof.Values.PageBody.lean ====
/- What the page call's body leaves, an entry at a time.

   A sequence's first step puts the new values' product into the accumulator; every step adds its 32 pages' products.  The
   last step divides each row of the accumulator by its weights' sum and takes, for a column of head `h`, the row of that
   head and the query. -/
module

public import proofs.«01_k».proof.Proof.PageFrameIdeal.Outs
public import Idealize.ShloMosaic.Lib.Pipeline.ValueKit
public import Idealize.ShloMosaic.Lib.Pipeline.ReadBack
public import Idealize.ShloMosaic.Lib.Pointwise

@[expose] public section

set_option maxRecDepth 16384
set_option maxHeartbeats 0

noncomputable section

namespace Cert.PageValues

open Idealize.ShloMosaic Idealize.ShloMosaic.TcCoe
open Cert.KernelIdeal Cert.KernelIdeal.Gen

/-- One page's product: a row of its weights with a column of its values. -/
def dt (p : Vec Ideal S1x1x64x128 .bf16) (q : Vec Ideal S1x512x128 .f32) (r : Fin 64) (n : Fin 512) : EReal :=
  ∑ l : Fin 128, p (ix4 0 0 r l) * q (ix3 0 n l)

/-- The pages of a step, by their place in it. -/
def pick (x4 x5 x6 x7 x8 x9 x10 x11 x12 x13 x14 x15 x16 x17 x18 x19 x20 x21 x22 x23 x24 x25 x26 x27 x28 x29 x30 x31 x32 x33 x34 x35 : Vec Ideal S1x512x128 .f32) (i : Fin 32) : Vec Ideal S1x512x128 .f32 :=
  match i.val with
  | 0 => x4
  | 1 => x5
  | 2 => x6
  | 3 => x7
  | 4 => x8
  | 5 => x9
  | 6 => x10
  | 7 => x11
  | 8 => x12
  | 9 => x13
  | 10 => x14
  | 11 => x15
  | 12 => x16
  | 13 => x17
  | 14 => x18
  | 15 => x19
  | 16 => x20
  | 17 => x21
  | 18 => x22
  | 19 => x23
  | 20 => x24
  | 21 => x25
  | 22 => x26
  | 23 => x27
  | 24 => x28
  | 25 => x29
  | 26 => x30
  | 27 => x31
  | 28 => x32
  | 29 => x33
  | 30 => x34
  | _ => x35

/-- A step's products: the weights of its 32 pages with the pages' values. -/
def part (p : Vec Ideal S1x32x64x128 .bf16) (q : Fin 32 → Vec Ideal S1x512x128 .f32) (r : Fin 64) (n : Fin 512) : EReal :=
  ∑ i : Fin 32, ∑ l : Fin 128, p (ix4 0 i r l) * q i (ix3 0 n l)

/-- The new values' product: a row of their weights with a column of them. -/
def own (p : Vec Ideal S1x64x128 .bf16) (v : Vec Ideal S8x512 .f32) (r : Fin 64) (n : Fin 512) : EReal :=
  ∑ l : Fin 8, p (ix3 0 r ⟨l.val, by omega⟩) * v (ix2 l n)

theorem dt_ld (x0 : Vec Ideal S1x32x64x128 .bf16) (k : ℕ) (hk : k < 32) (h) (q : Vec Ideal S1x512x128 .f32) (r : Fin 64) (n : Fin 512) :
    dt (View.ld x0 (Rect.unit ![0, k, 0, 0] ![1, 1, 64, 128] h)) q r n = ∑ l : Fin 128, x0 (ix4 0 ⟨k, hk⟩ r l) * q (ix3 0 n l) := by
  pointwise [dt]

theorem sum_low (f : Fin 128 → EReal) (h : ∀ l : Fin 128, 8 ≤ l.val → f l = 0) :
    ∑ l : Fin 128, f l = ∑ l : Fin 8, f ⟨l.val, by omega⟩ := by
  have e : ∑ l : Fin (8 + 120), f l = ∑ l : Fin 8, f (Fin.castAdd 120 l) + ∑ l : Fin 120, f (Fin.natAdd 8 l) :=
    Fin.sum_univ_add (fun l : Fin (8 + 120) => f l)
  rw [show ∑ l : Fin 128, f l = ∑ l : Fin (8 + 120), f l from rfl, e,
    Finset.sum_eq_zero (s := Finset.univ) (f := fun l : Fin 120 => f (Fin.natAdd 8 l)) (fun l _ => h _ (by simp [Fin.natAdd])), add_zero]
  rfl

theorem pay22 (v : Vec Ideal S8x512 .f32) (p : Vec Ideal S1x64x128 .bf16) (r : Fin 64) (n : Fin 512) :
    k0_pay22 (F := Ideal) v p (ix2 r n) = own p v r n := by
  have e : k0_pay22 (F := Ideal) v p (ix2 r n) = ∑ l : Fin 128, p (ix3 0 r l) * (if h : l.val < 8 then v (ix2 ⟨l.val, h⟩ n) else 0) := by
    pointwise [k0_pay22]
  rw [e, sum_low _ (fun l hl => by rw [dif_neg (by omega), mul_zero])]
  exact Finset.sum_congr rfl fun l _ => by rw [dif_pos l.isLt]

theorem sum32 (f : Fin 32 → EReal) (a : EReal) : a + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 = a + ∑ i, f i := by
  simp only [Fin.sum_univ_castSucc, Fin.sum_univ_zero, zero_add, ← add_assoc]
  rfl

theorem pay1 (v : Vec Ideal S64x512 .f32) (p0 : Vec Ideal S1x1x64x128 .bf16) (q0 : Vec Ideal S1x512x128 .f32) (r : Fin 64) (n : Fin 512) :
    k0_pay1 (F := Ideal) v p0 q0 (ix2 r n) = v (ix2 r n) + dt p0 q0 r n := by
  pointwise [k0_pay1, dt]

theorem pay23 (v : Vec Ideal S64x512 .f32) (p0 : Vec Ideal S1x1x64x128 .bf16) (q0 : Vec Ideal S1x512x128 .f32) (p1 : Vec Ideal S1x1x64x128 .bf16) (q1 : Vec Ideal S1x512x128 .f32) (p2 : Vec Ideal S1x1x64x128 .bf16) (q2 : Vec Ideal S1x512x128 .f32) (r : Fin 64) (n : Fin 512) :
    k0_pay23 (F := Ideal) v p0 q0 p1 q1 p2 q2 (ix2 r n) = v (ix2 r n) + dt p0 q0 r n + dt p1 q1 r n + dt p2 q2 r n := by
  pointwise [k0_pay23, dt]

theorem pay24 (v : Vec Ideal S64x512 .f32) (p0 : Vec Ideal S1x1x64x128 .bf16) (q0 : Vec Ideal S1x512x128 .f32) (p1 : Vec Ideal S1x1x64x128 .bf16) (q1 : Vec Ideal S1x512x128 .f32) (p2 : Vec Ideal S1x1x64x128 .bf16) (q2 : Vec Ideal S1x512x128 .f32) (p3 : Vec Ideal S1x1x64x128 .bf16) (q3 : Vec Ideal S1x512x128 .f32) (r : Fin 64) (n : Fin 512) :
    k0_pay24 (F := Ideal) v p0 q0 p1 q1 p2 q2 p3 q3 (ix2 r n) = v (ix2 r n) + dt p0 q0 r n + dt p1 q1 r n + dt p2 q2 r n + dt p3 q3 r n := by
  pointwise [k0_pay24, dt]

theorem pay25 (v : Vec Ideal S64x512 .f32) (p0 : Vec Ideal S1x1x64x128 .bf16) (q0 : Vec Ideal S1x512x128 .f32) (p1 : Vec Ideal S1x1x64x128 .bf16) (q1 : Vec Ideal S1x512x128 .f32) (p2 : Vec Ideal S1x1x64x128 .bf16) (q2 : Vec Ideal S1x512x128 .f32) (p3 : Vec Ideal S1x1x64x128 .bf16) (q3 : Vec Ideal S1x512x128 .f32) (r : Fin 64) (n : Fin 512) :
    k0_pay25 (F := Ideal) v p0 q0 p1 q1 p2 q2 p3 q3 (ix2 r n) = v (ix2 r n) + dt p0 q0 r n + dt p1 q1 r n + dt p2 q2 r n + dt p3 q3 r n := by
  pointwise [k0_pay25, dt]

theorem pay26 (v : Vec Ideal S64x512 .f32) (p0 : Vec Ideal S1x1x64x128 .bf16) (q0 : Vec Ideal S1x512x128 .f32) (p1 : Vec Ideal S1x1x64x128 .bf16) (q1 : Vec Ideal S1x512x128 .f32) (p2 : Vec Ideal S1x1x64x128 .bf16) (q2 : Vec Ideal S1x512x128 .f32) (p3 : Vec Ideal S1x1x64x128 .bf16) (q3 : Vec Ideal S1x512x128 .f32) (r : Fin 64) (n : Fin 512) :
    k0_pay26 (F := Ideal) v p0 q0 p1 q1 p2 q2 p3 q3 (ix2 r n) = v (ix2 r n) + dt p0 q0 r n + dt p1 q1 r n + dt p2 q2 r n + dt p3 q3 r n := by
  pointwise [k0_pay26, dt]

theorem pay27 (v : Vec Ideal S64x512 .f32) (p0 : Vec Ideal S1x1x64x128 .bf16) (q0 : Vec Ideal S1x512x128 .f32) (p1 : Vec Ideal S1x1x64x128 .bf16) (q1 : Vec Ideal S1x512x128 .f32) (p2 : Vec Ideal S1x1x64x128 .bf16) (q2 : Vec Ideal S1x512x128 .f32) (p3 : Vec Ideal S1x1x64x128 .bf16) (q3 : Vec Ideal S1x512x128 .f32) (r : Fin 64) (n : Fin 512) :
    k0_pay27 (F := Ideal) v p0 q0 p1 q1 p2 q2 p3 q3 (ix2 r n) = v (ix2 r n) + dt p0 q0 r n + dt p1 q1 r n + dt p2 q2 r n + dt p3 q3 r n := by
  pointwise [k0_pay27, dt]

theorem pay28 (v : Vec Ideal S64x512 .f32) (p0 : Vec Ideal S1x1x64x128 .bf16) (q0 : Vec Ideal S1x512x128 .f32) (p1 : Vec Ideal S1x1x64x128 .bf16) (q1 : Vec Ideal S1x512x128 .f32) (p2 : Vec Ideal S1x1x64x128 .bf16) (q2 : Vec Ideal S1x512x128 .f32) (p3 : Vec Ideal S1x1x64x128 .bf16) (q3 : Vec Ideal S1x512x128 .f32) (r : Fin 64) (n : Fin 512) :
    k0_pay28 (F := Ideal) v p0 q0 p1 q1 p2 q2 p3 q3 (ix2 r n) = v (ix2 r n) + dt p0 q0 r n + dt p1 q1 r n + dt p2 q2 r n + dt p3 q3 r n := by
  pointwise [k0_pay28, dt]

theorem pay29 (v : Vec Ideal S64x512 .f32) (p0 : Vec Ideal S1x1x64x128 .bf16) (q0 : Vec Ideal S1x512x128 .f32) (p1 : Vec Ideal S1x1x64x128 .bf16) (q1 : Vec Ideal S1x512x128 .f32) (p2 : Vec Ideal S1x1x64x128 .bf16) (q2 : Vec Ideal S1x512x128 .f32) (p3 : Vec Ideal S1x1x64x128 .bf16) (q3 : Vec Ideal S1x512x128 .f32) (r : Fin 64) (n : Fin 512) :
    k0_pay29 (F := Ideal) v p0 q0 p1 q1 p2 q2 p3 q3 (ix2 r n) = v (ix2 r n) + dt p0 q0 r n + dt p1 q1 r n + dt p2 q2 r n + dt p3 q3 r n := by
  pointwise [k0_pay29, dt]

theorem pay30 (v : Vec Ideal S64x512 .f32) (p0 : Vec Ideal S1x1x64x128 .bf16) (q0 : Vec Ideal S1x512x128 .f32) (p1 : Vec Ideal S1x1x64x128 .bf16) (q1 : Vec Ideal S1x512x128 .f32) (p2 : Vec Ideal S1x1x64x128 .bf16) (q2 : Vec Ideal S1x512x128 .f32) (p3 : Vec Ideal S1x1x64x128 .bf16) (q3 : Vec Ideal S1x512x128 .f32) (r : Fin 64) (n : Fin 512) :
    k0_pay30 (F := Ideal) v p0 q0 p1 q1 p2 q2 p3 q3 (ix2 r n) = v (ix2 r n) + dt p0 q0 r n + dt p1 q1 r n + dt p2 q2 r n + dt p3 q3 r n := by
  pointwise [k0_pay30, dt]

/-- The head of a column as the body computes it from the column's number. -/
def head (v : BitVec 32) : BitVec 32 :=
  Scalar.select
    (IntOp.andi
      (IntOp.cmpi .ne
        (IntOp.subi (BitVec.setWidth 32 (IntOp.cmpi .sgt v 0#32)) (BitVec.setWidth 32 (IntOp.cmpi .slt v 0#32)))
        (Scalar.subi (Scalar.extui (Scalar.cmpi .sgt 64#32 0#32)) (Scalar.extui (Scalar.cmpi .slt 64#32 0#32))))
      (IntOp.cmpi .ne (IntOp.remsi .vector v 64#32) 0#32))
    (IntOp.subi (IntOp.divsi .vector v 64#32) 1#32)
    (IntOp.divsi .vector v 64#32)

/-- It is the column divided by 64. -/
theorem head_eq : ∀ n : Fin 512, head (BitVec.ofNat 32 n.val) = BitVec.ofNat 32 (n.val / 64) := by decide +kernel

/-- What the last step stores, from the accumulator `x` and the weights' sums `l`. -/
def outPay (x : Vec Ideal S64x512 .f32) (l : Vec Ideal S1x64x1 .f32) : FVec Ideal S8x512 .f32 :=
  k0_pay2
    (k0_pay19 (k0_pay3 x l) (iota Kind.tc S8x512 32 [1] iota_S8x512_d1_w32)
      (k0_pay15 (k0_pay3 x l) (iota Kind.tc S8x512 32 [1] iota_S8x512_d1_w32)
        (k0_pay11 (k0_pay3 x l) (iota Kind.tc S8x512 32 [1] iota_S8x512_d1_w32)
          (k0_pay8 (k0_pay3 x l) (iota Kind.tc S8x512 32 [1] iota_S8x512_d1_w32) (k0_pay4 x l) (64#32) k0_pay5 k0_pay6 k0_pay7)
          (k0_pay9 (iota Kind.tc S8x512 32 [1] iota_S8x512_d1_w32)) (k0_pay10 (k0_pay3 x l)))
        (k0_pay12 (iota Kind.tc S8x512 32 [1] iota_S8x512_d1_w32))
        (k0_pay13 (iota Kind.tc S8x512 32 [1] iota_S8x512_d1_w32))
        (k0_pay14 (iota Kind.tc S8x512 32 [1] iota_S8x512_d1_w32)))
      (64#32) (k0_pay16 (iota Kind.tc S8x512 32 [1] iota_S8x512_d1_w32))
      (k0_pay17 (iota Kind.tc S8x512 32 [1] iota_S8x512_d1_w32))
      (k0_pay18 (iota Kind.tc S8x512 32 [1] iota_S8x512_d1_w32)))
    (k0_pay20 (iota Kind.tc S8x512 32 [1] iota_S8x512_d1_w32))
    (k0_pay21 (k0_pay3 x l))

theorem pay3 (x : Vec Ideal S64x512 .f32) (l : Vec Ideal S1x64x1 .f32) (r : Fin 64) (n : Fin 512) :
    k0_pay3 (F := Ideal) x l (ix2 r n) = Ideal.div (x (ix2 r n)) (l (ix3 0 r 0)) := by
  pointwise [k0_pay3]

theorem outPay_eq (x : Vec Ideal S64x512 .f32) (l : Vec Ideal S1x64x1 .f32) (s : Fin 8) (n : Fin 512) :
    outPay x l (ix2 s n) = k0_pay3 (F := Ideal) x l (ix2 ⟨n.val / 64 * 8 + s.val, by omega⟩ n) := by
  have e := head_eq n
  unfold head at e
  pointwise [outPay, k0_pay2, k0_pay19, k0_pay15, k0_pay11, k0_pay8, k0_pay4, k0_pay5, k0_pay6, k0_pay7, k0_pay9, k0_pay10, k0_pay12, k0_pay13, k0_pay14, k0_pay16, k0_pay17, k0_pay18, k0_pay20, k0_pay21]
  simp only [e]
  have hh : n.val / 64 = 0 ∨ n.val / 64 = 1 ∨ n.val / 64 = 2 ∨ n.val / 64 = 3 ∨ n.val / 64 = 4 ∨ n.val / 64 = 5 ∨ n.val / 64 = 6 ∨ n.val / 64 = 7 := by omega
  rcases hh with hh | hh | hh | hh | hh | hh | hh | hh
  · refine Eq.trans (b := k0_pay3 (F := Ideal) x l (ix2 ⟨0 + s.val, by omega⟩ n)) ?_ (congrArg (fun r => k0_pay3 (F := Ideal) x l (ix2 r n)) (Fin.ext (by show 0 + s.val = n.val / 64 * 8 + s.val; omega)))
    simp only [hh]
    exact congrArg (fun r => k0_pay3 (F := Ideal) x l (ix2 r n)) (Fin.ext (Nat.zero_add _).symm)
  · refine Eq.trans (b := k0_pay3 (F := Ideal) x l (ix2 ⟨8 + s.val, by omega⟩ n)) ?_ (congrArg (fun r => k0_pay3 (F := Ideal) x l (ix2 r n)) (Fin.ext (by show 8 + s.val = n.val / 64 * 8 + s.val; omega)))
    simp only [hh]
    rfl
  · refine Eq.trans (b := k0_pay3 (F := Ideal) x l (ix2 ⟨16 + s.val, by omega⟩ n)) ?_ (congrArg (fun r => k0_pay3 (F := Ideal) x l (ix2 r n)) (Fin.ext (by show 16 + s.val = n.val / 64 * 8 + s.val; omega)))
    simp only [hh]
    rfl
  · refine Eq.trans (b := k0_pay3 (F := Ideal) x l (ix2 ⟨24 + s.val, by omega⟩ n)) ?_ (congrArg (fun r => k0_pay3 (F := Ideal) x l (ix2 r n)) (Fin.ext (by show 24 + s.val = n.val / 64 * 8 + s.val; omega)))
    simp only [hh]
    rfl
  · refine Eq.trans (b := k0_pay3 (F := Ideal) x l (ix2 ⟨32 + s.val, by omega⟩ n)) ?_ (congrArg (fun r => k0_pay3 (F := Ideal) x l (ix2 r n)) (Fin.ext (by show 32 + s.val = n.val / 64 * 8 + s.val; omega)))
    simp only [hh]
    rfl
  · refine Eq.trans (b := k0_pay3 (F := Ideal) x l (ix2 ⟨40 + s.val, by omega⟩ n)) ?_ (congrArg (fun r => k0_pay3 (F := Ideal) x l (ix2 r n)) (Fin.ext (by show 40 + s.val = n.val / 64 * 8 + s.val; omega)))
    simp only [hh]
    rfl
  · refine Eq.trans (b := k0_pay3 (F := Ideal) x l (ix2 ⟨48 + s.val, by omega⟩ n)) ?_ (congrArg (fun r => k0_pay3 (F := Ideal) x l (ix2 r n)) (Fin.ext (by show 48 + s.val = n.val / 64 * 8 + s.val; omega)))
    simp only [hh]
    rfl
  · refine Eq.trans (b := k0_pay3 (F := Ideal) x l (ix2 ⟨56 + s.val, by omega⟩ n)) ?_ (congrArg (fun r => k0_pay3 (F := Ideal) x l (ix2 r n)) (Fin.ext (by show 56 + s.val = n.val / 64 * 8 + s.val; omega)))
    simp only [hh]
    rfl

/-- The accumulator after a first step. -/
theorem first (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : cond0_0 i) (hc1 : ¬cond0_1 i)
    (x0 : Vec Ideal S1x32x64x128 .bf16) (x1 : Vec Ideal S1x64x128 .bf16) (x2 : Vec Ideal S1x64x128 .f32) (x3 : Vec Ideal S8x512 .f32) (x4 : Vec Ideal S1x512x128 .f32) (x5 : Vec Ideal S1x512x128 .f32) (x6 : Vec Ideal S1x512x128 .f32) (x7 : Vec Ideal S1x512x128 .f32) (x8 : Vec Ideal S1x512x128 .f32) (x9 : Vec Ideal S1x512x128 .f32) (x10 : Vec Ideal S1x512x128 .f32) (x11 : Vec Ideal S1x512x128 .f32) (x12 : Vec Ideal S1x512x128 .f32) (x13 : Vec Ideal S1x512x128 .f32) (x14 : Vec Ideal S1x512x128 .f32) (x15 : Vec Ideal S1x512x128 .f32) (x16 : Vec Ideal S1x512x128 .f32) (x17 : Vec Ideal S1x512x128 .f32) (x18 : Vec Ideal S1x512x128 .f32) (x19 : Vec Ideal S1x512x128 .f32) (x20 : Vec Ideal S1x512x128 .f32) (x21 : Vec Ideal S1x512x128 .f32) (x22 : Vec Ideal S1x512x128 .f32) (x23 : Vec Ideal S1x512x128 .f32) (x24 : Vec Ideal S1x512x128 .f32) (x25 : Vec Ideal S1x512x128 .f32) (x26 : Vec Ideal S1x512x128 .f32) (x27 : Vec Ideal S1x512x128 .f32) (x28 : Vec Ideal S1x512x128 .f32) (x29 : Vec Ideal S1x512x128 .f32) (x30 : Vec Ideal S1x512x128 .f32) (x31 : Vec Ideal S1x512x128 .f32) (x32 : Vec Ideal S1x512x128 .f32) (x33 : Vec Ideal S1x512x128 .f32) (x34 : Vec Ideal S1x512x128 .f32) (x35 : Vec Ideal S1x512x128 .f32) (xt0 : TbBuf0 (F := Ideal) c tbM0_0) (r : Fin 64) (n : Fin 512) :
    sout0_A_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 (ix2 r n) = own x1 x3 r n + part x0 (pick x4 x5 x6 x7 x8 x9 x10 x11 x12 x13 x14 x15 x16 x17 x18 x19 x20 x21 x22 x23 x24 x25 x26 x27 x28 x29 x30 x31 x32 x33 x34 x35) r n := by
  frame_out
  rw [pay1, pay30, pay29, pay28, pay27, pay26, pay25, pay24, pay23, pay22]
  simp (disch := decide) only [dt_ld]
  exact sum32 (fun i => ∑ l : Fin 128, x0 (ix4 0 i r l) * (pick x4 x5 x6 x7 x8 x9 x10 x11 x12 x13 x14 x15 x16 x17 x18 x19 x20 x21 x22 x23 x24 x25 x26 x27 x28 x29 x30 x31 x32 x33 x34 x35) i (ix3 0 n l)) _

/-- The accumulator after a middle step. -/
theorem middle (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : ¬cond0_1 i)
    (x0 : Vec Ideal S1x32x64x128 .bf16) (x1 : Vec Ideal S1x64x128 .bf16) (x2 : Vec Ideal S1x64x128 .f32) (x3 : Vec Ideal S8x512 .f32) (x4 : Vec Ideal S1x512x128 .f32) (x5 : Vec Ideal S1x512x128 .f32) (x6 : Vec Ideal S1x512x128 .f32) (x7 : Vec Ideal S1x512x128 .f32) (x8 : Vec Ideal S1x512x128 .f32) (x9 : Vec Ideal S1x512x128 .f32) (x10 : Vec Ideal S1x512x128 .f32) (x11 : Vec Ideal S1x512x128 .f32) (x12 : Vec Ideal S1x512x128 .f32) (x13 : Vec Ideal S1x512x128 .f32) (x14 : Vec Ideal S1x512x128 .f32) (x15 : Vec Ideal S1x512x128 .f32) (x16 : Vec Ideal S1x512x128 .f32) (x17 : Vec Ideal S1x512x128 .f32) (x18 : Vec Ideal S1x512x128 .f32) (x19 : Vec Ideal S1x512x128 .f32) (x20 : Vec Ideal S1x512x128 .f32) (x21 : Vec Ideal S1x512x128 .f32) (x22 : Vec Ideal S1x512x128 .f32) (x23 : Vec Ideal S1x512x128 .f32) (x24 : Vec Ideal S1x512x128 .f32) (x25 : Vec Ideal S1x512x128 .f32) (x26 : Vec Ideal S1x512x128 .f32) (x27 : Vec Ideal S1x512x128 .f32) (x28 : Vec Ideal S1x512x128 .f32) (x29 : Vec Ideal S1x512x128 .f32) (x30 : Vec Ideal S1x512x128 .f32) (x31 : Vec Ideal S1x512x128 .f32) (x32 : Vec Ideal S1x512x128 .f32) (x33 : Vec Ideal S1x512x128 .f32) (x34 : Vec Ideal S1x512x128 .f32) (x35 : Vec Ideal S1x512x128 .f32) (xt0 : TbBuf0 (F := Ideal) c tbM0_0) (xs0 : Vec Ideal S64x512 .f32) (r : Fin 64) (n : Fin 512) :
    sout0_B_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0 (ix2 r n) = xs0 (ix2 r n) + part x0 (pick x4 x5 x6 x7 x8 x9 x10 x11 x12 x13 x14 x15 x16 x17 x18 x19 x20 x21 x22 x23 x24 x25 x26 x27 x28 x29 x30 x31 x32 x33 x34 x35) r n := by
  frame_out
  rw [pay1, pay30, pay29, pay28, pay27, pay26, pay25, pay24, pay23]
  simp (disch := decide) only [dt_ld]
  exact sum32 (fun i => ∑ l : Fin 128, x0 (ix4 0 i r l) * (pick x4 x5 x6 x7 x8 x9 x10 x11 x12 x13 x14 x15 x16 x17 x18 x19 x20 x21 x22 x23 x24 x25 x26 x27 x28 x29 x30 x31 x32 x33 x34 x35) i (ix3 0 n l)) _

/-- The accumulator after a last step. -/
theorem last (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : cond0_1 i)
    (x0 : Vec Ideal S1x32x64x128 .bf16) (x1 : Vec Ideal S1x64x128 .bf16) (x2 : Vec Ideal S1x64x128 .f32) (x3 : Vec Ideal S8x512 .f32) (x4 : Vec Ideal S1x512x128 .f32) (x5 : Vec Ideal S1x512x128 .f32) (x6 : Vec Ideal S1x512x128 .f32) (x7 : Vec Ideal S1x512x128 .f32) (x8 : Vec Ideal S1x512x128 .f32) (x9 : Vec Ideal S1x512x128 .f32) (x10 : Vec Ideal S1x512x128 .f32) (x11 : Vec Ideal S1x512x128 .f32) (x12 : Vec Ideal S1x512x128 .f32) (x13 : Vec Ideal S1x512x128 .f32) (x14 : Vec Ideal S1x512x128 .f32) (x15 : Vec Ideal S1x512x128 .f32) (x16 : Vec Ideal S1x512x128 .f32) (x17 : Vec Ideal S1x512x128 .f32) (x18 : Vec Ideal S1x512x128 .f32) (x19 : Vec Ideal S1x512x128 .f32) (x20 : Vec Ideal S1x512x128 .f32) (x21 : Vec Ideal S1x512x128 .f32) (x22 : Vec Ideal S1x512x128 .f32) (x23 : Vec Ideal S1x512x128 .f32) (x24 : Vec Ideal S1x512x128 .f32) (x25 : Vec Ideal S1x512x128 .f32) (x26 : Vec Ideal S1x512x128 .f32) (x27 : Vec Ideal S1x512x128 .f32) (x28 : Vec Ideal S1x512x128 .f32) (x29 : Vec Ideal S1x512x128 .f32) (x30 : Vec Ideal S1x512x128 .f32) (x31 : Vec Ideal S1x512x128 .f32) (x32 : Vec Ideal S1x512x128 .f32) (x33 : Vec Ideal S1x512x128 .f32) (x34 : Vec Ideal S1x512x128 .f32) (x35 : Vec Ideal S1x512x128 .f32) (xt0 : TbBuf0 (F := Ideal) c tbM0_0) (xs0 : Vec Ideal S64x512 .f32) (r : Fin 64) (n : Fin 512) :
    sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0 (ix2 r n) = xs0 (ix2 r n) + part x0 (pick x4 x5 x6 x7 x8 x9 x10 x11 x12 x13 x14 x15 x16 x17 x18 x19 x20 x21 x22 x23 x24 x25 x26 x27 x28 x29 x30 x31 x32 x33 x34 x35) r n := by
  frame_out
  rw [pay1, pay30, pay29, pay28, pay27, pay26, pay25, pay24, pay23]
  simp (disch := decide) only [dt_ld]
  exact sum32 (fun i => ∑ l : Fin 128, x0 (ix4 0 i r l) * (pick x4 x5 x6 x7 x8 x9 x10 x11 x12 x13 x14 x15 x16 x17 x18 x19 x20 x21 x22 x23 x24 x25 x26 x27 x28 x29 x30 x31 x32 x33 x34 x35) i (ix3 0 n l)) _

/-- What a last step stores, from the accumulator it leaves. -/
theorem stored (c : Dev nD) (i : grid0.Coords) (arg3 : Memref sig .tc .vmem S1x32x64x128 .bf16) (harg3 : arg3.IsWhole) (arg4 : Memref sig .tc .vmem S1x64x128 .bf16) (harg4 : arg4.IsWhole) (arg5 : Memref sig .tc .vmem S1x64x128 .f32) (harg5 : arg5.IsWhole) (arg6 : Memref sig .tc .vmem S8x512 .f32) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x512x128 .f32) (harg12 : arg12.IsWhole) (arg13 : Memref sig .tc .vmem S1x512x128 .f32) (harg13 : arg13.IsWhole) (arg14 : Memref sig .tc .vmem S1x512x128 .f32) (harg14 : arg14.IsWhole) (arg15 : Memref sig .tc .vmem S1x512x128 .f32) (harg15 : arg15.IsWhole) (arg16 : Memref sig .tc .vmem S1x512x128 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x512x128 .f32) (harg20 : arg20.IsWhole) (arg21 : Memref sig .tc .vmem S1x512x128 .f32) (harg21 : arg21.IsWhole) (arg22 : Memref sig .tc .vmem S1x512x128 .f32) (harg22 : arg22.IsWhole) (arg23 : Memref sig .tc .vmem S1x512x128 .f32) (harg23 : arg23.IsWhole) (arg24 : Memref sig .tc .vmem S1x512x128 .f32) (harg24 : arg24.IsWhole) (arg25 : Memref sig .tc .vmem S1x512x128 .f32) (harg25 : arg25.IsWhole) (arg26 : Memref sig .tc .vmem S1x512x128 .f32) (harg26 : arg26.IsWhole) (arg27 : Memref sig .tc .vmem S1x512x128 .f32) (harg27 : arg27.IsWhole) (arg28 : Memref sig .tc .vmem S1x512x128 .f32) (harg28 : arg28.IsWhole) (arg29 : Memref sig .tc .vmem S1x512x128 .f32) (harg29 : arg29.IsWhole) (arg30 : Memref sig .tc .vmem S1x512x128 .f32) (harg30 : arg30.IsWhole) (arg31 : Memref sig .tc .vmem S1x512x128 .f32) (harg31 : arg31.IsWhole) (arg32 : Memref sig .tc .vmem S1x512x128 .f32) (harg32 : arg32.IsWhole) (arg33 : Memref sig .tc .vmem S1x512x128 .f32) (harg33 : arg33.IsWhole) (arg34 : Memref sig .tc .vmem S1x512x128 .f32) (harg34 : arg34.IsWhole) (arg35 : Memref sig .tc .vmem S1x512x128 .f32) (harg35 : arg35.IsWhole) (arg36 : Memref sig .tc .vmem S1x512x128 .f32) (harg36 : arg36.IsWhole) (arg37 : Memref sig .tc .vmem S1x512x128 .f32) (harg37 : arg37.IsWhole) (arg38 : Memref sig .tc .vmem S1x512x128 .f32) (harg38 : arg38.IsWhole) (arg39 : Memref sig .tc .vmem S8x512 .f32) (harg39 : arg39.IsWhole) (arg40 : Memref sig .tc .vmem S64x512 .f32) (harg40 : arg40.IsWhole) (hc0 : ¬cond0_0 i) (hc1 : cond0_1 i)
    (x0 : Vec Ideal S1x32x64x128 .bf16) (x1 : Vec Ideal S1x64x128 .bf16) (x2 : Vec Ideal S1x64x128 .f32) (x3 : Vec Ideal S8x512 .f32) (x4 : Vec Ideal S1x512x128 .f32) (x5 : Vec Ideal S1x512x128 .f32) (x6 : Vec Ideal S1x512x128 .f32) (x7 : Vec Ideal S1x512x128 .f32) (x8 : Vec Ideal S1x512x128 .f32) (x9 : Vec Ideal S1x512x128 .f32) (x10 : Vec Ideal S1x512x128 .f32) (x11 : Vec Ideal S1x512x128 .f32) (x12 : Vec Ideal S1x512x128 .f32) (x13 : Vec Ideal S1x512x128 .f32) (x14 : Vec Ideal S1x512x128 .f32) (x15 : Vec Ideal S1x512x128 .f32) (x16 : Vec Ideal S1x512x128 .f32) (x17 : Vec Ideal S1x512x128 .f32) (x18 : Vec Ideal S1x512x128 .f32) (x19 : Vec Ideal S1x512x128 .f32) (x20 : Vec Ideal S1x512x128 .f32) (x21 : Vec Ideal S1x512x128 .f32) (x22 : Vec Ideal S1x512x128 .f32) (x23 : Vec Ideal S1x512x128 .f32) (x24 : Vec Ideal S1x512x128 .f32) (x25 : Vec Ideal S1x512x128 .f32) (x26 : Vec Ideal S1x512x128 .f32) (x27 : Vec Ideal S1x512x128 .f32) (x28 : Vec Ideal S1x512x128 .f32) (x29 : Vec Ideal S1x512x128 .f32) (x30 : Vec Ideal S1x512x128 .f32) (x31 : Vec Ideal S1x512x128 .f32) (x32 : Vec Ideal S1x512x128 .f32) (x33 : Vec Ideal S1x512x128 .f32) (x34 : Vec Ideal S1x512x128 .f32) (x35 : Vec Ideal S1x512x128 .f32) (xt0 : TbBuf0 (F := Ideal) c tbM0_0) (xs0 : Vec Ideal S64x512 .f32) (s : Fin 8) (n : Fin 512) :
    out0_C_36 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0 (ix2 s n)
      = Ideal.div (sout0_C_0 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 hc0 hc1 x0 x1 x2 x3 x4 x5 x6 x7 x8 x9 x10 x11 x12 x13 x14 x15 x16 x17 x18 x19 x20 x21 x22 x23 x24 x25 x26 x27 x28 x29 x30 x31 x32 x33 x34 x35 xt0 xs0 (ix2 ⟨n.val / 64 * 8 + s.val, by omega⟩ n)) (x2 (ix3 0 ⟨n.val / 64 * 8 + s.val, by omega⟩ 0)) := by
  frame_out
  refine (outPay_eq _ _ s n).trans ((pay3 _ _ _ _).trans ?_)
  pointwise

end Cert.PageValues

end
-- ==== Proof.Values.PageRow.lean ====
/- The page attention's result, entry by entry, as a function of the arguments: the table, the weights of the cached
   positions, the weights of the new positions, the denominators, the new values and the cache. -/
module

public import proofs.«01_k».proof.KernelIdeal
public import Idealize.ShloMosaic.Lib.Pipeline.ValueKit
public import Idealize.ShloMosaic.Lib.Pointwise

@[expose] public section

set_option maxRecDepth 16384

noncomputable section

namespace Cert.PageValues

open Idealize.ShloMosaic Idealize.ShloMosaic.TcCoe
open Cert.KernelIdeal

/-- The cache page that the table names for page `g` of sequence `b`. -/
def pageOf (x0 : IVec S32x128 32) (b : Fin 32) (g : Fin 128) : Fin 5120 := ⟨min (x0 (ix2 b g)).toNat 5119, by omega⟩

/-- The products of one cached page: a row of its weights with the values at the column's head and place. -/
def overPage (x0 : IVec S32x128 32) (x1 : FVec Ideal S32x128x64x128 .bf16) (x5 : FVec Ideal S2x5120x128x8x64 .f32)
    (b : Fin 32) (r : Fin 64) (n : Fin 512) (g : Fin 128) : EReal :=
  ∑ l : Fin 128, x1 (ix4 b g r l) * x5 (ix5 0 (pageOf x0 b g) l ⟨n.val / 64, by omega⟩ ⟨n.val % 64, by omega⟩)

/-- The products of the new positions. -/
def overNew (x2 : FVec Ideal S32x64x128 .bf16) (x4 : FVec Ideal S256x512 .f32) (b : Fin 32) (r : Fin 64) (n : Fin 512) : EReal :=
  ∑ l : Fin 8, x2 (ix3 b r ⟨l.val, by omega⟩) * x4 (ix2 ⟨b.val * 8 + l.val, by omega⟩ n)

/-- The weights' row of a head and a query: the column gives the head. -/
abbrev rowOf (s : Fin 8) (n : Fin 512) : Fin 64 := ⟨n.val / 64 * 8 + s.val, by omega⟩

/-- The result at query `s` of sequence `b`, column `n`: all the products, divided by the row's denominator. -/
def entry (x0 : IVec S32x128 32) (x1 : FVec Ideal S32x128x64x128 .bf16) (x2 : FVec Ideal S32x64x128 .bf16)
    (x3 : FVec Ideal S32x64x128 .f32) (x4 : FVec Ideal S256x512 .f32) (x5 : FVec Ideal S2x5120x128x8x64 .f32)
    (b : Fin 32) (s : Fin 8) (n : Fin 512) : EReal :=
  Ideal.div ((∑ g : Fin 128, overPage x0 x1 x5 b (rowOf s n) n g) + overNew x2 x4 b (rowOf s n) n) (x3 (ix3 b (rowOf s n) 0))

/-- The array of all of them. -/
def G (x0 : IVec S32x128 32) (x1 : FVec Ideal S32x128x64x128 .bf16) (x2 : FVec Ideal S32x64x128 .bf16)
    (x3 : FVec Ideal S32x64x128 .f32) (x4 : FVec Ideal S256x512 .f32) (x5 : FVec Ideal S2x5120x128x8x64 .f32) :
    FVec Ideal S256x512 .f32 := fun i =>
  entry x0 x1 x2 x3 x4 x5 ⟨(i 0).val / 8, by have h : (i 0).val < 256 := (i 0).isLt; omega⟩
    ⟨(i 0).val % 8, Nat.mod_lt _ (by decide)⟩ (i 1)

end Cert.PageValues

end
-- ==== Proof.Values.PageBlocks.lean ====
/- What the page kernel's windows hold at a grid point, as entries of the program's arguments. A point is a sequence and
   a quarter of its pages; a page's block is the cache page that the table names. -/
module

public import proofs.«01_k».proof.Proof.Values.PageOk
public import proofs.«01_k».proof.Proof.Values.PageRow

@[expose] public section

set_option maxRecDepth 16384

noncomputable section

namespace Cert.PageValues

open Idealize.ShloMosaic Idealize.ShloMosaic.TcCoe Idealize.SL.Sem
open Cert.KernelIdeal Cert.KernelIdeal.Gen

variable (m : (ℓ : Loc nD τ sig) → Buf (Elt Ideal) ℓ)

theorem laid_apply (x : FVec Ideal S2x5120x128x8x64 .f32) (h h') (p : Fin 5120) (n : Fin 512) (l : Fin 128) :
    shapeCast S10240x512x128 (transpose S2x5120x8x64x128 [0, 1, 3, 4, 2] x h) h' (ix3 ⟨p.val, by omega⟩ n l)
      = x (ix5 0 p l ⟨n.val / 64, by omega⟩ ⟨n.val % 64, by omega⟩) := by
  refine (shapeCast_apply _ h' _ (ix5 0 p ⟨n.val / 64, by omega⟩ ⟨n.val % 64, by omega⟩ l) ?_).trans ?_
  · rw [Shape.rowMajor_val_five, Shape.rowMajor_val_three]
    show (((0 * 5120 + p.val) * 8 + n.val / 64) * 64 + n.val % 64) * 128 + l.val = (p.val * 512 + n.val) * 128 + l.val
    omega
  · pointwise

/-- The cache as the program lays it out for the kernel: a page's rows are heads and places, its columns positions. -/
theorem entry_v1 (c : Dev nD) (p : Fin 5120) (n : Fin 512) (l : Fin 128) :
    (V m c main_v1 : FVec Ideal S10240x512x128 .f32) (ix3 ⟨p.val, by omega⟩ n l)
      = (m ((c : Thread nD τ).loc main_arg5) : FVec Ideal S2x5120x128x8x64 .f32) (ix5 0 p l ⟨n.val / 64, by omega⟩ ⟨n.val % 64, by omega⟩) := by
  entry_read
  exact laid_apply (m (c, Proc.tc.devRef main_arg5)) _ _ p n l

/-- A point's two coordinates. -/
theorem coords : ∀ t : Fin grid0.N, (grid0.coords t 0).val = t.val / 4 ∧ (grid0.coords t 1).val = t.val % 4 := by decide +kernel

theorem word (i : ℕ) (h : i < 4294967296) : (BitVec.ofNat 32 i).toNat = i := by
  rw [BitVec.toNat_ofNat]; exact Nat.mod_eq_of_lt h

theorem col_word (s i : ℕ) (hs : s < 4) (hi : i < 32) : (BitVec.ofNat 32 s * 32#32 + BitVec.ofNat 32 i).toNat = s * 32 + i := by
  rw [BitVec.toNat_add, BitVec.toNat_mul, word s (by omega), word i (by omega)]
  show (s * 32 % 4294967296 + i) % 4294967296 = _
  omega

/-- The table's word at a pair of coordinates. -/
theorem word_at (pf : pre0.Contents (Elt Ideal)) (off : Fin 2 → ℕ) (inb) (h : S1x1.numel = 1) (b : Fin 32) (g : Fin 128)
    (h0 : off 0 = b.val) (h1 : off 1 = g.val) :
    (pf.at 0 (Rect.unit (s := S32x128) off S1x1.size inb) h : BitVec 32) = pf 0 (ix2 b g) := by
  show pf 0 _ = pf 0 _
  congr 1
  funext a
  refine Fin.ext ?_
  match a with
  | ⟨0, _⟩ => exact h0
  | ⟨1, _⟩ => exact h1

/-- The point of sequence `b` and quarter `s`. -/
abbrev pt (hO : Ok m) (b : Fin 32) (s : Fin 4) : Fin (cfgM m hO).N := ⟨b.val * 4 + s.val, lt_of_lt_of_eq (by omega) N_0.symm⟩

theorem pt0 (hO : Ok m) (b : Fin 32) (s : Fin 4) : (grid0.coords (pt m hO b s) 0).val = b.val :=
  (coords (pt m hO b s)).1.trans (by show (b.val * 4 + s.val) / 4 = _; omega)
theorem pt1 (hO : Ok m) (b : Fin 32) (s : Fin 4) : (grid0.coords (pt m hO b s) 1).val = s.val :=
  (coords (pt m hO b s)).2.trans (by show (b.val * 4 + s.val) % 4 = _; omega)

/-- A point's weights: those of 32 pages of its sequence. -/
theorem blk0 (hO : Ok m) (c : Dev nD) (b : Fin 32) (s : Fin 4) (i : Fin 32) (r : Fin 64) (l : Fin 128) :
    (iblk m hO c 0 (pt m hO b s) : FVec Ideal S1x32x64x128 .bf16) (ix4 0 i r l)
      = (m ((c : Thread nD τ).loc main_arg1) : FVec Ideal S32x128x64x128 .bf16) (ix4 b ⟨s.val * 32 + i.val, by omega⟩ r l) := by
  refine Eq.trans ?_ (congrFun (V_main_arg1 m c) _)
  unfold iblk
  show V m c main_arg1 ((((cfgM m hO).win 0).rect (pt m hO b s)).emb (ix4 0 i r l)) = _
  congr 1
  funext a
  refine Fin.ext ?_
  refine (Pipeline.Window.rect_emb_val ((cfgM m hO).win 0) (pt m hO b s) (ix4 0 i r l) a).trans ?_
  have h0 := pt0 m hO b s
  have h1 := pt1 m hO b s
  fin_cases a
  · show (BitVec.ofNat 32 (grid0.coords (pt m hO b s) 0).val).toNat * 1 + 0 = b.val
    rw [word _ (by omega), h0]; first | done | omega
  · show (BitVec.ofNat 32 (grid0.coords (pt m hO b s) 1).val).toNat * 32 + i.val = s.val * 32 + i.val
    rw [word _ (by omega), h1]; first | done | omega
  · show 0 * 64 + r.val = r.val
    omega
  · show 0 * 128 + l.val = l.val
    omega

/-- Its sequence's weights of the new positions. -/
theorem blk1 (hO : Ok m) (c : Dev nD) (b : Fin 32) (s : Fin 4) (r : Fin 64) (l : Fin 128) :
    (iblk m hO c 1 (pt m hO b s) : FVec Ideal S1x64x128 .bf16) (ix3 0 r l)
      = (m ((c : Thread nD τ).loc main_arg2) : FVec Ideal S32x64x128 .bf16) (ix3 b r l) := by
  refine Eq.trans ?_ (congrFun (V_main_arg2 m c) _)
  unfold iblk
  show V m c main_arg2 ((((cfgM m hO).win 1).rect (pt m hO b s)).emb (ix3 0 r l)) = _
  congr 1
  funext a
  refine Fin.ext ?_
  refine (Pipeline.Window.rect_emb_val ((cfgM m hO).win 1) (pt m hO b s) (ix3 0 r l) a).trans ?_
  have h0 := pt0 m hO b s
  have h1 := pt1 m hO b s
  fin_cases a
  · show (BitVec.ofNat 32 (grid0.coords (pt m hO b s) 0).val).toNat * 1 + 0 = b.val
    rw [word _ (by omega), h0]; first | done | omega
  · show 0 * 64 + r.val = r.val
    omega
  · show 0 * 128 + l.val = l.val
    omega

/-- Its sequence's denominators. -/
theorem blk2 (hO : Ok m) (c : Dev nD) (b : Fin 32) (s : Fin 4) (r : Fin 64) (l : Fin 128) :
    (iblk m hO c 2 (pt m hO b s) : FVec Ideal S1x64x128 .f32) (ix3 0 r l)
      = (m ((c : Thread nD τ).loc main_arg3) : FVec Ideal S32x64x128 .f32) (ix3 b r l) := by
  refine Eq.trans ?_ (congrFun (V_main_arg3 m c) _)
  unfold iblk
  show V m c main_arg3 ((((cfgM m hO).win 2).rect (pt m hO b s)).emb (ix3 0 r l)) = _
  congr 1
  funext a
  refine Fin.ext ?_
  refine (Pipeline.Window.rect_emb_val ((cfgM m hO).win 2) (pt m hO b s) (ix3 0 r l) a).trans ?_
  have h0 := pt0 m hO b s
  have h1 := pt1 m hO b s
  fin_cases a
  · show (BitVec.ofNat 32 (grid0.coords (pt m hO b s) 0).val).toNat * 1 + 0 = b.val
    rw [word _ (by omega), h0]; first | done | omega
  · show 0 * 64 + r.val = r.val
    omega
  · show 0 * 128 + l.val = l.val
    omega

/-- Its sequence's new values. -/
theorem blk3 (hO : Ok m) (c : Dev nD) (b : Fin 32) (s : Fin 4) (l : Fin 8) (n : Fin 512) :
    (iblk m hO c 3 (pt m hO b s) : FVec Ideal S8x512 .f32) (ix2 l n)
      = (m ((c : Thread nD τ).loc main_arg4) : FVec Ideal S256x512 .f32) (ix2 ⟨b.val * 8 + l.val, by omega⟩ n) := by
  refine Eq.trans ?_ (congrFun (V_main_arg4 m c) _)
  unfold iblk
  show V m c main_arg4 ((((cfgM m hO).win 3).rect (pt m hO b s)).emb (ix2 l n)) = _
  congr 1
  funext a
  refine Fin.ext ?_
  refine (Pipeline.Window.rect_emb_val ((cfgM m hO).win 3) (pt m hO b s) (ix2 l n) a).trans ?_
  have h0 := pt0 m hO b s
  have h1 := pt1 m hO b s
  fin_cases a
  · show (BitVec.ofNat 32 (grid0.coords (pt m hO b s) 0).val).toNat * 8 + l.val = b.val * 8 + l.val
    rw [word _ (by omega), h0]; first | done | omega
  · show 0 * 512 + n.val = n.val
    omega

/-- A cache page taken at a word below 5120 is the page that the table names. -/
theorem page_val (c : Dev nD) (b : Fin 32) (g : Fin 128) (v : BitVec 32) (hv : v = tbl m 0 (ix2 b g))
    (hp : ∀ x, (tbl m 0 x : BitVec 32).toNat < 5120) :
    (0#32 + v).toNat * 1 + 0 = (pageOf (m ((c : Thread nD τ).loc main_arg0)) b g).val := by
  obtain rfl : c = 0 := Subsingleton.elim _ _
  have h := hp (ix2 b g)
  have e : (tbl m 0 (ix2 b g) : BitVec 32) = m (((0 : Dev nD) : Thread nD τ).loc main_arg0) (ix2 b g) :=
    congrFun (V_main_arg0 m 0) _
  rw [BitVec.zero_add, hv]
  unfold pageOf
  show _ = min (m (((0 : Dev nD) : Thread nD τ).loc main_arg0) (ix2 b g) : BitVec 32).toNat 5119
  rw [← e]
  omega

/-- The value at a column's place and a position of the page that the table names for page `i` of the point. -/
abbrev pageVal (c : Dev nD) (b : Fin 32) (s : Fin 4) (n : Fin 512) (l : Fin 128) (i : Fin 32) : EReal :=
  (m ((c : Thread nD τ).loc main_arg5) : FVec Ideal S2x5120x128x8x64 .f32)
    (ix5 0 (pageOf (m ((c : Thread nD τ).loc main_arg0)) b ⟨s.val * 32 + i.val, by omega⟩) l ⟨n.val / 64, by omega⟩ ⟨n.val % 64, by omega⟩)

/-- The two places in the table of the word of page `i` of the point. -/
theorem row_place (hO : Ok m) (b : Fin 32) (s : Fin 4) : (BitVec.ofNat 32 (grid0.coords (pt m hO b s) 0).val).toNat = b.val := by
  rw [pt0, word _ (by omega)]

theorem col_place (hO : Ok m) (b : Fin 32) (s : Fin 4) (i : Fin 32) :
    (BitVec.ofNat 32 (grid0.coords (pt m hO b s) 1).val * 32#32 + BitVec.ofNat 32 i.val).toNat = s.val * 32 + i.val := by
  rw [pt1]; exact col_word _ _ (by omega) (by omega)

/-- The laid out cache at an index that a page window reads, whose page is the word `v`. -/
theorem page_at (c : Dev nD) (b : Fin 32) (s : Fin 4) (n : Fin 512) (l : Fin 128)
    (hp : ∀ x, (tbl m 0 x : BitVec 32).toNat < 5120) (i : Fin 32) (j : S10240x512x128.Idx) (v : BitVec 32)
    (hv : v = tbl m 0 (ix2 b ⟨s.val * 32 + i.val, by omega⟩)) (j0 : (j 0).val = (0#32 + v).toNat * 1 + 0)
    (j1 : (j 1).val = 0 * 512 + n.val) (j2 : (j 2).val = 0 * 128 + l.val) :
    (V m c main_v1 : FVec Ideal S10240x512x128 .f32) j = pageVal m c b s n l i := by
  refine Eq.trans ?_ (entry_v1 m c _ n l)
  congr 1
  funext a
  refine Fin.ext ?_
  match a with
  | ⟨0, _⟩ => exact j0.trans (page_val m c b ⟨s.val * 32 + i.val, by omega⟩ v hv hp)
  | ⟨1, _⟩ => exact j1.trans (by show 0 * 512 + n.val = n.val; omega)
  | ⟨2, _⟩ => exact j2.trans (by show 0 * 128 + l.val = l.val; omega)

section Pages

variable (hO : Ok m) (c : Dev nD) (b : Fin 32) (s : Fin 4) (n : Fin 512) (l : Fin 128)
  (hp : ∀ x, (tbl m 0 x : BitVec 32).toNat < 5120)
include hp

theorem page0 : (iblk m hO c 4 (pt m hO b s) : FVec Ideal S1x512x128 .f32) (ix3 0 n l) = pageVal m c b s n l 0 := by
  have e := Pipeline.Window.rect_emb_val ((cfgM m hO).win 4) (pt m hO b s) (ix3 0 n l)
  refine page_at m c b s n l hp 0 _ _ ?_ (e (0 : Fin 3)) (e (1 : Fin 3)) (e (2 : Fin 3))
  exact word_at (tbl m) _ _ _ b ⟨s.val * 32 + 0, by omega⟩ (row_place m hO b s) (col_place m hO b s 0)

theorem page1 : (iblk m hO c 5 (pt m hO b s) : FVec Ideal S1x512x128 .f32) (ix3 0 n l) = pageVal m c b s n l 1 := by
  have e := Pipeline.Window.rect_emb_val ((cfgM m hO).win 5) (pt m hO b s) (ix3 0 n l)
  refine page_at m c b s n l hp 1 _ _ ?_ (e (0 : Fin 3)) (e (1 : Fin 3)) (e (2 : Fin 3))
  exact word_at (tbl m) _ _ _ b ⟨s.val * 32 + 1, by omega⟩ (row_place m hO b s) (col_place m hO b s 1)

theorem page2 : (iblk m hO c 6 (pt m hO b s) : FVec Ideal S1x512x128 .f32) (ix3 0 n l) = pageVal m c b s n l 2 := by
  have e := Pipeline.Window.rect_emb_val ((cfgM m hO).win 6) (pt m hO b s) (ix3 0 n l)
  refine page_at m c b s n l hp 2 _ _ ?_ (e (0 : Fin 3)) (e (1 : Fin 3)) (e (2 : Fin 3))
  exact word_at (tbl m) _ _ _ b ⟨s.val * 32 + 2, by omega⟩ (row_place m hO b s) (col_place m hO b s 2)

theorem page3 : (iblk m hO c 7 (pt m hO b s) : FVec Ideal S1x512x128 .f32) (ix3 0 n l) = pageVal m c b s n l 3 := by
  have e := Pipeline.Window.rect_emb_val ((cfgM m hO).win 7) (pt m hO b s) (ix3 0 n l)
  refine page_at m c b s n l hp 3 _ _ ?_ (e (0 : Fin 3)) (e (1 : Fin 3)) (e (2 : Fin 3))
  exact word_at (tbl m) _ _ _ b ⟨s.val * 32 + 3, by omega⟩ (row_place m hO b s) (col_place m hO b s 3)

theorem page4 : (iblk m hO c 8 (pt m hO b s) : FVec Ideal S1x512x128 .f32) (ix3 0 n l) = pageVal m c b s n l 4 := by
  have e := Pipeline.Window.rect_emb_val ((cfgM m hO).win 8) (pt m hO b s) (ix3 0 n l)
  refine page_at m c b s n l hp 4 _ _ ?_ (e (0 : Fin 3)) (e (1 : Fin 3)) (e (2 : Fin 3))
  exact word_at (tbl m) _ _ _ b ⟨s.val * 32 + 4, by omega⟩ (row_place m hO b s) (col_place m hO b s 4)

theorem page5 : (iblk m hO c 9 (pt m hO b s) : FVec Ideal S1x512x128 .f32) (ix3 0 n l) = pageVal m c b s n l 5 := by
  have e := Pipeline.Window.rect_emb_val ((cfgM m hO).win 9) (pt m hO b s) (ix3 0 n l)
  refine page_at m c b s n l hp 5 _ _ ?_ (e (0 : Fin 3)) (e (1 : Fin 3)) (e (2 : Fin 3))
  exact word_at (tbl m) _ _ _ b ⟨s.val * 32 + 5, by omega⟩ (row_place m hO b s) (col_place m hO b s 5)

theorem page6 : (iblk m hO c 10 (pt m hO b s) : FVec Ideal S1x512x128 .f32) (ix3 0 n l) = pageVal m c b s n l 6 := by
  have e := Pipeline.Window.rect_emb_val ((cfgM m hO).win 10) (pt m hO b s) (ix3 0 n l)
  refine page_at m c b s n l hp 6 _ _ ?_ (e (0 : Fin 3)) (e (1 : Fin 3)) (e (2 : Fin 3))
  exact word_at (tbl m) _ _ _ b ⟨s.val * 32 + 6, by omega⟩ (row_place m hO b s) (col_place m hO b s 6)

theorem page7 : (iblk m hO c 11 (pt m hO b s) : FVec Ideal S1x512x128 .f32) (ix3 0 n l) = pageVal m c b s n l 7 := by
  have e := Pipeline.Window.rect_emb_val ((cfgM m hO).win 11) (pt m hO b s) (ix3 0 n l)
  refine page_at m c b s n l hp 7 _ _ ?_ (e (0 : Fin 3)) (e (1 : Fin 3)) (e (2 : Fin 3))
  exact word_at (tbl m) _ _ _ b ⟨s.val * 32 + 7, by omega⟩ (row_place m hO b s) (col_place m hO b s 7)

theorem page8 : (iblk m hO c 12 (pt m hO b s) : FVec Ideal S1x512x128 .f32) (ix3 0 n l) = pageVal m c b s n l 8 := by
  have e := Pipeline.Window.rect_emb_val ((cfgM m hO).win 12) (pt m hO b s) (ix3 0 n l)
  refine page_at m c b s n l hp 8 _ _ ?_ (e (0 : Fin 3)) (e (1 : Fin 3)) (e (2 : Fin 3))
  exact word_at (tbl m) _ _ _ b ⟨s.val * 32 + 8, by omega⟩ (row_place m hO b s) (col_place m hO b s 8)

theorem page9 : (iblk m hO c 13 (pt m hO b s) : FVec Ideal S1x512x128 .f32) (ix3 0 n l) = pageVal m c b s n l 9 := by
  have e := Pipeline.Window.rect_emb_val ((cfgM m hO).win 13) (pt m hO b s) (ix3 0 n l)
  refine page_at m c b s n l hp 9 _ _ ?_ (e (0 : Fin 3)) (e (1 : Fin 3)) (e (2 : Fin 3))
  exact word_at (tbl m) _ _ _ b ⟨s.val * 32 + 9, by omega⟩ (row_place m hO b s) (col_place m hO b s 9)

theorem page10 : (iblk m hO c 14 (pt m hO b s) : FVec Ideal S1x512x128 .f32) (ix3 0 n l) = pageVal m c b s n l 10 := by
  have e := Pipeline.Window.rect_emb_val ((cfgM m hO).win 14) (pt m hO b s) (ix3 0 n l)
  refine page_at m c b s n l hp 10 _ _ ?_ (e (0 : Fin 3)) (e (1 : Fin 3)) (e (2 : Fin 3))
  exact word_at (tbl m) _ _ _ b ⟨s.val * 32 + 10, by omega⟩ (row_place m hO b s) (col_place m hO b s 10)

theorem page11 : (iblk m hO c 15 (pt m hO b s) : FVec Ideal S1x512x128 .f32) (ix3 0 n l) = pageVal m c b s n l 11 := by
  have e := Pipeline.Window.rect_emb_val ((cfgM m hO).win 15) (pt m hO b s) (ix3 0 n l)
  refine page_at m c b s n l hp 11 _ _ ?_ (e (0 : Fin 3)) (e (1 : Fin 3)) (e (2 : Fin 3))
  exact word_at (tbl m) _ _ _ b ⟨s.val * 32 + 11, by omega⟩ (row_place m hO b s) (col_place m hO b s 11)

theorem page12 : (iblk m hO c 16 (pt m hO b s) : FVec Ideal S1x512x128 .f32) (ix3 0 n l) = pageVal m c b s n l 12 := by
  have e := Pipeline.Window.rect_emb_val ((cfgM m hO).win 16) (pt m hO b s) (ix3 0 n l)
  refine page_at m c b s n l hp 12 _ _ ?_ (e (0 : Fin 3)) (e (1 : Fin 3)) (e (2 : Fin 3))
  exact word_at (tbl m) _ _ _ b ⟨s.val * 32 + 12, by omega⟩ (row_place m hO b s) (col_place m hO b s 12)

theorem page13 : (iblk m hO c 17 (pt m hO b s) : FVec Ideal S1x512x128 .f32) (ix3 0 n l) = pageVal m c b s n l 13 := by
  have e := Pipeline.Window.rect_emb_val ((cfgM m hO).win 17) (pt m hO b s) (ix3 0 n l)
  refine page_at m c b s n l hp 13 _ _ ?_ (e (0 : Fin 3)) (e (1 : Fin 3)) (e (2 : Fin 3))
  exact word_at (tbl m) _ _ _ b ⟨s.val * 32 + 13, by omega⟩ (row_place m hO b s) (col_place m hO b s 13)

theorem page14 : (iblk m hO c 18 (pt m hO b s) : FVec Ideal S1x512x128 .f32) (ix3 0 n l) = pageVal m c b s n l 14 := by
  have e := Pipeline.Window.rect_emb_val ((cfgM m hO).win 18) (pt m hO b s) (ix3 0 n l)
  refine page_at m c b s n l hp 14 _ _ ?_ (e (0 : Fin 3)) (e (1 : Fin 3)) (e (2 : Fin 3))
  exact word_at (tbl m) _ _ _ b ⟨s.val * 32 + 14, by omega⟩ (row_place m hO b s) (col_place m hO b s 14)

theorem page15 : (iblk m hO c 19 (pt m hO b s) : FVec Ideal S1x512x128 .f32) (ix3 0 n l) = pageVal m c b s n l 15 := by
  have e := Pipeline.Window.rect_emb_val ((cfgM m hO).win 19) (pt m hO b s) (ix3 0 n l)
  refine page_at m c b s n l hp 15 _ _ ?_ (e (0 : Fin 3)) (e (1 : Fin 3)) (e (2 : Fin 3))
  exact word_at (tbl m) _ _ _ b ⟨s.val * 32 + 15, by omega⟩ (row_place m hO b s) (col_place m hO b s 15)

theorem page16 : (iblk m hO c 20 (pt m hO b s) : FVec Ideal S1x512x128 .f32) (ix3 0 n l) = pageVal m c b s n l 16 := by
  have e := Pipeline.Window.rect_emb_val ((cfgM m hO).win 20) (pt m hO b s) (ix3 0 n l)
  refine page_at m c b s n l hp 16 _ _ ?_ (e (0 : Fin 3)) (e (1 : Fin 3)) (e (2 : Fin 3))
  exact word_at (tbl m) _ _ _ b ⟨s.val * 32 + 16, by omega⟩ (row_place m hO b s) (col_place m hO b s 16)

theorem page17 : (iblk m hO c 21 (pt m hO b s) : FVec Ideal S1x512x128 .f32) (ix3 0 n l) = pageVal m c b s n l 17 := by
  have e := Pipeline.Window.rect_emb_val ((cfgM m hO).win 21) (pt m hO b s) (ix3 0 n l)
  refine page_at m c b s n l hp 17 _ _ ?_ (e (0 : Fin 3)) (e (1 : Fin 3)) (e (2 : Fin 3))
  exact word_at (tbl m) _ _ _ b ⟨s.val * 32 + 17, by omega⟩ (row_place m hO b s) (col_place m hO b s 17)

theorem page18 : (iblk m hO c 22 (pt m hO b s) : FVec Ideal S1x512x128 .f32) (ix3 0 n l) = pageVal m c b s n l 18 := by
  have e := Pipeline.Window.rect_emb_val ((cfgM m hO).win 22) (pt m hO b s) (ix3 0 n l)
  refine page_at m c b s n l hp 18 _ _ ?_ (e (0 : Fin 3)) (e (1 : Fin 3)) (e (2 : Fin 3))
  exact word_at (tbl m) _ _ _ b ⟨s.val * 32 + 18, by omega⟩ (row_place m hO b s) (col_place m hO b s 18)

theorem page19 : (iblk m hO c 23 (pt m hO b s) : FVec Ideal S1x512x128 .f32) (ix3 0 n l) = pageVal m c b s n l 19 := by
  have e := Pipeline.Window.rect_emb_val ((cfgM m hO).win 23) (pt m hO b s) (ix3 0 n l)
  refine page_at m c b s n l hp 19 _ _ ?_ (e (0 : Fin 3)) (e (1 : Fin 3)) (e (2 : Fin 3))
  exact word_at (tbl m) _ _ _ b ⟨s.val * 32 + 19, by omega⟩ (row_place m hO b s) (col_place m hO b s 19)

theorem page20 : (iblk m hO c 24 (pt m hO b s) : FVec Ideal S1x512x128 .f32) (ix3 0 n l) = pageVal m c b s n l 20 := by
  have e := Pipeline.Window.rect_emb_val ((cfgM m hO).win 24) (pt m hO b s) (ix3 0 n l)
  refine page_at m c b s n l hp 20 _ _ ?_ (e (0 : Fin 3)) (e (1 : Fin 3)) (e (2 : Fin 3))
  exact word_at (tbl m) _ _ _ b ⟨s.val * 32 + 20, by omega⟩ (row_place m hO b s) (col_place m hO b s 20)

theorem page21 : (iblk m hO c 25 (pt m hO b s) : FVec Ideal S1x512x128 .f32) (ix3 0 n l) = pageVal m c b s n l 21 := by
  have e := Pipeline.Window.rect_emb_val ((cfgM m hO).win 25) (pt m hO b s) (ix3 0 n l)
  refine page_at m c b s n l hp 21 _ _ ?_ (e (0 : Fin 3)) (e (1 : Fin 3)) (e (2 : Fin 3))
  exact word_at (tbl m) _ _ _ b ⟨s.val * 32 + 21, by omega⟩ (row_place m hO b s) (col_place m hO b s 21)

theorem page22 : (iblk m hO c 26 (pt m hO b s) : FVec Ideal S1x512x128 .f32) (ix3 0 n l) = pageVal m c b s n l 22 := by
  have e := Pipeline.Window.rect_emb_val ((cfgM m hO).win 26) (pt m hO b s) (ix3 0 n l)
  refine page_at m c b s n l hp 22 _ _ ?_ (e (0 : Fin 3)) (e (1 : Fin 3)) (e (2 : Fin 3))
  exact word_at (tbl m) _ _ _ b ⟨s.val * 32 + 22, by omega⟩ (row_place m hO b s) (col_place m hO b s 22)

theorem page23 : (iblk m hO c 27 (pt m hO b s) : FVec Ideal S1x512x128 .f32) (ix3 0 n l) = pageVal m c b s n l 23 := by
  have e := Pipeline.Window.rect_emb_val ((cfgM m hO).win 27) (pt m hO b s) (ix3 0 n l)
  refine page_at m c b s n l hp 23 _ _ ?_ (e (0 : Fin 3)) (e (1 : Fin 3)) (e (2 : Fin 3))
  exact word_at (tbl m) _ _ _ b ⟨s.val * 32 + 23, by omega⟩ (row_place m hO b s) (col_place m hO b s 23)

theorem page24 : (iblk m hO c 28 (pt m hO b s) : FVec Ideal S1x512x128 .f32) (ix3 0 n l) = pageVal m c b s n l 24 := by
  have e := Pipeline.Window.rect_emb_val ((cfgM m hO).win 28) (pt m hO b s) (ix3 0 n l)
  refine page_at m c b s n l hp 24 _ _ ?_ (e (0 : Fin 3)) (e (1 : Fin 3)) (e (2 : Fin 3))
  exact word_at (tbl m) _ _ _ b ⟨s.val * 32 + 24, by omega⟩ (row_place m hO b s) (col_place m hO b s 24)

theorem page25 : (iblk m hO c 29 (pt m hO b s) : FVec Ideal S1x512x128 .f32) (ix3 0 n l) = pageVal m c b s n l 25 := by
  have e := Pipeline.Window.rect_emb_val ((cfgM m hO).win 29) (pt m hO b s) (ix3 0 n l)
  refine page_at m c b s n l hp 25 _ _ ?_ (e (0 : Fin 3)) (e (1 : Fin 3)) (e (2 : Fin 3))
  exact word_at (tbl m) _ _ _ b ⟨s.val * 32 + 25, by omega⟩ (row_place m hO b s) (col_place m hO b s 25)

theorem page26 : (iblk m hO c 30 (pt m hO b s) : FVec Ideal S1x512x128 .f32) (ix3 0 n l) = pageVal m c b s n l 26 := by
  have e := Pipeline.Window.rect_emb_val ((cfgM m hO).win 30) (pt m hO b s) (ix3 0 n l)
  refine page_at m c b s n l hp 26 _ _ ?_ (e (0 : Fin 3)) (e (1 : Fin 3)) (e (2 : Fin 3))
  exact word_at (tbl m) _ _ _ b ⟨s.val * 32 + 26, by omega⟩ (row_place m hO b s) (col_place m hO b s 26)

theorem page27 : (iblk m hO c 31 (pt m hO b s) : FVec Ideal S1x512x128 .f32) (ix3 0 n l) = pageVal m c b s n l 27 := by
  have e := Pipeline.Window.rect_emb_val ((cfgM m hO).win 31) (pt m hO b s) (ix3 0 n l)
  refine page_at m c b s n l hp 27 _ _ ?_ (e (0 : Fin 3)) (e (1 : Fin 3)) (e (2 : Fin 3))
  exact word_at (tbl m) _ _ _ b ⟨s.val * 32 + 27, by omega⟩ (row_place m hO b s) (col_place m hO b s 27)

theorem page28 : (iblk m hO c 32 (pt m hO b s) : FVec Ideal S1x512x128 .f32) (ix3 0 n l) = pageVal m c b s n l 28 := by
  have e := Pipeline.Window.rect_emb_val ((cfgM m hO).win 32) (pt m hO b s) (ix3 0 n l)
  refine page_at m c b s n l hp 28 _ _ ?_ (e (0 : Fin 3)) (e (1 : Fin 3)) (e (2 : Fin 3))
  exact word_at (tbl m) _ _ _ b ⟨s.val * 32 + 28, by omega⟩ (row_place m hO b s) (col_place m hO b s 28)

theorem page29 : (iblk m hO c 33 (pt m hO b s) : FVec Ideal S1x512x128 .f32) (ix3 0 n l) = pageVal m c b s n l 29 := by
  have e := Pipeline.Window.rect_emb_val ((cfgM m hO).win 33) (pt m hO b s) (ix3 0 n l)
  refine page_at m c b s n l hp 29 _ _ ?_ (e (0 : Fin 3)) (e (1 : Fin 3)) (e (2 : Fin 3))
  exact word_at (tbl m) _ _ _ b ⟨s.val * 32 + 29, by omega⟩ (row_place m hO b s) (col_place m hO b s 29)

theorem page30 : (iblk m hO c 34 (pt m hO b s) : FVec Ideal S1x512x128 .f32) (ix3 0 n l) = pageVal m c b s n l 30 := by
  have e := Pipeline.Window.rect_emb_val ((cfgM m hO).win 34) (pt m hO b s) (ix3 0 n l)
  refine page_at m c b s n l hp 30 _ _ ?_ (e (0 : Fin 3)) (e (1 : Fin 3)) (e (2 : Fin 3))
  exact word_at (tbl m) _ _ _ b ⟨s.val * 32 + 30, by omega⟩ (row_place m hO b s) (col_place m hO b s 30)

theorem page31 : (iblk m hO c 35 (pt m hO b s) : FVec Ideal S1x512x128 .f32) (ix3 0 n l) = pageVal m c b s n l 31 := by
  have e := Pipeline.Window.rect_emb_val ((cfgM m hO).win 35) (pt m hO b s) (ix3 0 n l)
  refine page_at m c b s n l hp 31 _ _ ?_ (e (0 : Fin 3)) (e (1 : Fin 3)) (e (2 : Fin 3))
  exact word_at (tbl m) _ _ _ b ⟨s.val * 32 + 31, by omega⟩ (row_place m hO b s) (col_place m hO b s 31)

end Pages

end Cert.PageValues

end
-- ==== Proof.Values.PageKernel.lean ====
/- The page kernel's result array after a run: the array of `entry`. A sequence takes four points. The first starts the
   accumulator with the products of the new positions, every point adds the products of 32 pages, and the last stores
   the quotients. -/
module

public import proofs.«01_k».proof.Proof.PageFrameIdeal.Launch
public import proofs.«01_k».proof.Proof.Values.PageBody
public import proofs.«01_k».proof.Proof.Values.PageBlocks
public import Idealize.ShloMosaic.Lib.Claim

@[expose] public section

set_option maxRecDepth 16384

noncomputable section

namespace Cert.PageValues

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The program's arguments. -/
abbrev a0 (c : Dev nD) : IVec S32x128 32 := m ((c : Thread nD τ).loc main_arg0)
abbrev a1 (c : Dev nD) : FVec Ideal S32x128x64x128 .bf16 := m ((c : Thread nD τ).loc main_arg1)
abbrev a2 (c : Dev nD) : FVec Ideal S32x64x128 .bf16 := m ((c : Thread nD τ).loc main_arg2)
abbrev a3 (c : Dev nD) : FVec Ideal S32x64x128 .f32 := m ((c : Thread nD τ).loc main_arg3)
abbrev a4 (c : Dev nD) : FVec Ideal S256x512 .f32 := m ((c : Thread nD τ).loc main_arg4)
abbrev a5 (c : Dev nD) : FVec Ideal S2x5120x128x8x64 .f32 := m ((c : Thread nD τ).loc main_arg5)

theorem pick_pt (hO : Ok m) (c : Dev nD) (b : Fin 32) (s : Fin 4) (n : Fin 512) (l : Fin 128)
    (hp : ∀ x, (tbl m 0 x : BitVec 32).toNat < 5120) (i : Fin 32) :
    (pick (iblk m hO c 4 (pt m hO b s)) (iblk m hO c 5 (pt m hO b s)) (iblk m hO c 6 (pt m hO b s)) (iblk m hO c 7 (pt m hO b s)) (iblk m hO c 8 (pt m hO b s)) (iblk m hO c 9 (pt m hO b s)) (iblk m hO c 10 (pt m hO b s)) (iblk m hO c 11 (pt m hO b s)) (iblk m hO c 12 (pt m hO b s)) (iblk m hO c 13 (pt m hO b s)) (iblk m hO c 14 (pt m hO b s)) (iblk m hO c 15 (pt m hO b s)) (iblk m hO c 16 (pt m hO b s)) (iblk m hO c 17 (pt m hO b s)) (iblk m hO c 18 (pt m hO b s)) (iblk m hO c 19 (pt m hO b s)) (iblk m hO c 20 (pt m hO b s)) (iblk m hO c 21 (pt m hO b s)) (iblk m hO c 22 (pt m hO b s)) (iblk m hO c 23 (pt m hO b s)) (iblk m hO c 24 (pt m hO b s)) (iblk m hO c 25 (pt m hO b s)) (iblk m hO c 26 (pt m hO b s)) (iblk m hO c 27 (pt m hO b s)) (iblk m hO c 28 (pt m hO b s)) (iblk m hO c 29 (pt m hO b s)) (iblk m hO c 30 (pt m hO b s)) (iblk m hO c 31 (pt m hO b s)) (iblk m hO c 32 (pt m hO b s)) (iblk m hO c 33 (pt m hO b s)) (iblk m hO c 34 (pt m hO b s)) (iblk m hO c 35 (pt m hO b s))) i (ix3 0 n l)
      = a5 m c (ix5 0 (pageOf (a0 m c) b ⟨s.val * 32 + i.val, by omega⟩) l ⟨n.val / 64, by omega⟩ ⟨n.val % 64, by omega⟩) :=
  match i with
  | ⟨0, _⟩ => page0 m hO c b s n l hp
  | ⟨1, _⟩ => page1 m hO c b s n l hp
  | ⟨2, _⟩ => page2 m hO c b s n l hp
  | ⟨3, _⟩ => page3 m hO c b s n l hp
  | ⟨4, _⟩ => page4 m hO c b s n l hp
  | ⟨5, _⟩ => page5 m hO c b s n l hp
  | ⟨6, _⟩ => page6 m hO c b s n l hp
  | ⟨7, _⟩ => page7 m hO c b s n l hp
  | ⟨8, _⟩ => page8 m hO c b s n l hp
  | ⟨9, _⟩ => page9 m hO c b s n l hp
  | ⟨10, _⟩ => page10 m hO c b s n l hp
  | ⟨11, _⟩ => page11 m hO c b s n l hp
  | ⟨12, _⟩ => page12 m hO c b s n l hp
  | ⟨13, _⟩ => page13 m hO c b s n l hp
  | ⟨14, _⟩ => page14 m hO c b s n l hp
  | ⟨15, _⟩ => page15 m hO c b s n l hp
  | ⟨16, _⟩ => page16 m hO c b s n l hp
  | ⟨17, _⟩ => page17 m hO c b s n l hp
  | ⟨18, _⟩ => page18 m hO c b s n l hp
  | ⟨19, _⟩ => page19 m hO c b s n l hp
  | ⟨20, _⟩ => page20 m hO c b s n l hp
  | ⟨21, _⟩ => page21 m hO c b s n l hp
  | ⟨22, _⟩ => page22 m hO c b s n l hp
  | ⟨23, _⟩ => page23 m hO c b s n l hp
  | ⟨24, _⟩ => page24 m hO c b s n l hp
  | ⟨25, _⟩ => page25 m hO c b s n l hp
  | ⟨26, _⟩ => page26 m hO c b s n l hp
  | ⟨27, _⟩ => page27 m hO c b s n l hp
  | ⟨28, _⟩ => page28 m hO c b s n l hp
  | ⟨29, _⟩ => page29 m hO c b s n l hp
  | ⟨30, _⟩ => page30 m hO c b s n l hp
  | ⟨31, _⟩ => page31 m hO c b s n l hp
  | ⟨k + 32, hk⟩ => absurd hk (by omega)

/-- What a point adds: the products of its 32 pages. -/
abbrev quarter (c : Dev nD) (b : Fin 32) (r : Fin 64) (n : Fin 512) (s : Fin 4) : EReal :=
  ∑ i : Fin 32, overPage (a0 m c) (a1 m c) (a5 m c) b r n ⟨s.val * 32 + i.val, by omega⟩

theorem part_pt (hO : Ok m) (c : Dev nD) (b : Fin 32) (s : Fin 4) (r : Fin 64) (n : Fin 512)
    (hp : ∀ x, (tbl m 0 x : BitVec 32).toNat < 5120) :
    part (iblk m hO c 0 (pt m hO b s)) (pick (iblk m hO c 4 (pt m hO b s)) (iblk m hO c 5 (pt m hO b s)) (iblk m hO c 6 (pt m hO b s)) (iblk m hO c 7 (pt m hO b s)) (iblk m hO c 8 (pt m hO b s)) (iblk m hO c 9 (pt m hO b s)) (iblk m hO c 10 (pt m hO b s)) (iblk m hO c 11 (pt m hO b s)) (iblk m hO c 12 (pt m hO b s)) (iblk m hO c 13 (pt m hO b s)) (iblk m hO c 14 (pt m hO b s)) (iblk m hO c 15 (pt m hO b s)) (iblk m hO c 16 (pt m hO b s)) (iblk m hO c 17 (pt m hO b s)) (iblk m hO c 18 (pt m hO b s)) (iblk m hO c 19 (pt m hO b s)) (iblk m hO c 20 (pt m hO b s)) (iblk m hO c 21 (pt m hO b s)) (iblk m hO c 22 (pt m hO b s)) (iblk m hO c 23 (pt m hO b s)) (iblk m hO c 24 (pt m hO b s)) (iblk m hO c 25 (pt m hO b s)) (iblk m hO c 26 (pt m hO b s)) (iblk m hO c 27 (pt m hO b s)) (iblk m hO c 28 (pt m hO b s)) (iblk m hO c 29 (pt m hO b s)) (iblk m hO c 30 (pt m hO b s)) (iblk m hO c 31 (pt m hO b s)) (iblk m hO c 32 (pt m hO b s)) (iblk m hO c 33 (pt m hO b s)) (iblk m hO c 34 (pt m hO b s)) (iblk m hO c 35 (pt m hO b s))) r n = quarter m c b r n s := by
  unfold part quarter overPage
  refine Finset.sum_congr rfl fun i _ => Finset.sum_congr rfl fun l _ => ?_
  exact congrArg₂ (fun u v : EReal => u * v) (blk0 m hO c b s i r l) (pick_pt m hO c b s n l hp i)

theorem own_pt (hO : Ok m) (c : Dev nD) (b : Fin 32) (s : Fin 4) (r : Fin 64) (n : Fin 512) :
    own (iblk m hO c 1 (pt m hO b s)) (iblk m hO c 3 (pt m hO b s)) r n = overNew (a2 m c) (a4 m c) b r n := by
  unfold own overNew
  refine Finset.sum_congr rfl fun l _ => ?_
  exact congrArg₂ (fun u v : EReal => u * v) (blk1 m hO c b s r ⟨l.val, by omega⟩) (blk3 m hO c b s l n)

set_option maxHeartbeats 4000000 in
/-- What each step leaves, from the point's blocks. -/
theorem stepA_acc (hO : Ok m) (c : Dev nD) (t : Fin (cfgM m hO).N) (h0 : t.val % 4 = 0) (h1 : ¬t.val % 4 = 3) (r : Fin 64) (n : Fin 512) :
    (stepA m hO c t h0 h1).2 (ix2 r n) = own (iblk m hO c 1 t) (iblk m hO c 3 t) r n + part (iblk m hO c 0 t) (pick (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t)) r n :=
  first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) r n

set_option maxHeartbeats 4000000 in
theorem stepB_acc (hO : Ok m) (c : Dev nD) (t : Fin (cfgM m hO).N) (h0 : ¬t.val % 4 = 0) (h1 : ¬t.val % 4 = 3) (xs : Vec Ideal S64x512 .f32)
    (r : Fin 64) (n : Fin 512) :
    (stepB m hO c t h0 h1 xs).2 (ix2 r n) = xs (ix2 r n) + part (iblk m hO c 0 t) (pick (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t)) r n :=
  middle c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) xs r n

set_option maxHeartbeats 4000000 in
theorem stepC_acc (hO : Ok m) (c : Dev nD) (t : Fin (cfgM m hO).N) (h0 : ¬t.val % 4 = 0) (h1 : t.val % 4 = 3) (xs : Vec Ideal S64x512 .f32)
    (r : Fin 64) (n : Fin 512) :
    (stepC m hO c t h0 h1 xs).2 (ix2 r n) = xs (ix2 r n) + part (iblk m hO c 0 t) (pick (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t)) r n :=
  last c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) xs r n

set_option maxHeartbeats 4000000 in
theorem stepC_out (hO : Ok m) (c : Dev nD) (t : Fin (cfgM m hO).N) (h0 : ¬t.val % 4 = 0) (h1 : t.val % 4 = 3) (xs : Vec Ideal S64x512 .f32)
    (s : Fin 8) (n : Fin 512) :
    (stepC m hO c t h0 h1 xs).1 (ix2 s n)
      = Ideal.div ((stepC m hO c t h0 h1 xs).2 (ix2 (rowOf s n) n)) ((iblk m hO c 2 t : FVec Ideal S1x64x128 .f32) (ix3 0 (rowOf s n) 0)) :=
  stored c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (ms0_36 m hO t) (hs0_36 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (iblk m hO c 34 t) (iblk m hO c 35 t) (tbl m 0) xs s n

/-- The accumulator after each of a sequence's four points. -/
theorem acc0 (hO : Ok m) (c : Dev nD) (b : Fin 32) (r : Fin 64) (n : Fin 512)
    (hp : ∀ x, (tbl m 0 x : BitVec 32).toNat < 5120) :
    (outsAt0 m hO c (pt m hO b 0).val (pt m hO b 0).isLt).2 (ix2 r n)
      = overNew (a2 m c) (a4 m c) b r n + quarter m c b r n 0 := by
  rw [outsAt0_A m hO c (pt m hO b 0) (by show (b.val * 4 + 0) % 4 = 0; omega) (by show ¬(b.val * 4 + 0) % 4 = 3; omega)]
  exact (stepA_acc ..).trans (congrArg₂ (fun u v : EReal => u + v) (own_pt m hO c b 0 r n) (part_pt m hO c b 0 r n hp))

theorem acc1 (hO : Ok m) (c : Dev nD) (b : Fin 32) (r : Fin 64) (n : Fin 512)
    (hp : ∀ x, (tbl m 0 x : BitVec 32).toNat < 5120) :
    (outsAt0 m hO c (pt m hO b 1).val (pt m hO b 1).isLt).2 (ix2 r n)
      = overNew (a2 m c) (a4 m c) b r n + quarter m c b r n 0 + quarter m c b r n 1 := by
  rw [outsAt0_B m hO c (pt m hO b 1) (by show ¬(b.val * 4 + 1) % 4 = 0; omega) (by show ¬(b.val * 4 + 1) % 4 = 3; omega)]
  exact (stepB_acc ..).trans (congrArg₂ (fun u v : EReal => u + v) (acc0 m hO c b r n hp) (part_pt m hO c b 1 r n hp))

theorem acc2 (hO : Ok m) (c : Dev nD) (b : Fin 32) (r : Fin 64) (n : Fin 512)
    (hp : ∀ x, (tbl m 0 x : BitVec 32).toNat < 5120) :
    (outsAt0 m hO c (pt m hO b 2).val (pt m hO b 2).isLt).2 (ix2 r n)
      = overNew (a2 m c) (a4 m c) b r n + quarter m c b r n 0 + quarter m c b r n 1 + quarter m c b r n 2 := by
  rw [outsAt0_B m hO c (pt m hO b 2) (by show ¬(b.val * 4 + 2) % 4 = 0; omega) (by show ¬(b.val * 4 + 2) % 4 = 3; omega)]
  exact (stepB_acc ..).trans (congrArg₂ (fun u v : EReal => u + v) (acc1 m hO c b r n hp) (part_pt m hO c b 2 r n hp))

theorem four_quarters (c : Dev nD) (b : Fin 32) (r : Fin 64) (n : Fin 512) (o : EReal) :
    o + quarter m c b r n 0 + quarter m c b r n 1 + quarter m c b r n 2 + quarter m c b r n 3
      = (∑ g : Fin 128, overPage (a0 m c) (a1 m c) (a5 m c) b r n g) + o := by
  rw [← Fin.sum_mul_add_fin 4 32 (fun g : Fin 128 => overPage (a0 m c) (a1 m c) (a5 m c) b r n g), Fin.sum_univ_four]
  show _ = quarter m c b r n 0 + quarter m c b r n 1 + quarter m c b r n 2 + quarter m c b r n 3 + o
  rw [add_comm (quarter m c b r n 0 + quarter m c b r n 1 + quarter m c b r n 2 + quarter m c b r n 3) o]
  simp only [add_assoc]

/-- What a sequence's last point stores. -/
theorem out_pt (hO : Ok m) (c : Dev nD) (b : Fin 32) (s : Fin 8) (n : Fin 512)
    (hp : ∀ x, (tbl m 0 x : BitVec 32).toNat < 5120) :
    (outsAt0 m hO c (pt m hO b 3).val (pt m hO b 3).isLt).1 (ix2 s n)
      = entry (a0 m c) (a1 m c) (a2 m c) (a3 m c) (a4 m c) (a5 m c) b s n := by
  rw [outsAt0_C m hO c (pt m hO b 3) (by show ¬(b.val * 4 + 3) % 4 = 0; omega) (by show (b.val * 4 + 3) % 4 = 3; omega)]
  refine (stepC_out ..).trans ?_
  unfold entry
  refine congrArg₂ Ideal.div ?_ (blk2 m hO c b 3 (rowOf s n) 0)
  refine (stepC_acc ..).trans ?_
  refine Eq.trans ?_ (four_quarters m c b (rowOf s n) n _)
  exact congrArg₂ (fun u v : EReal => u + v) (acc2 m hO c b (rowOf s n) n hp) (part_pt m hO c b 3 (rowOf s n) n hp)

/-- Where the result's block of a point lies. -/
abbrev at36 (hO : Ok m) (b : Fin 32) (s : Fin 4) (y : S8x512.Idx) : S256x512.Idx :=
  (((cfgM m hO).win 36).rect (pt m hO b s)).emb y

theorem place0 (hO : Ok m) (b : Fin 32) (s : Fin 4) (y : S8x512.Idx) :
    (at36 m hO b s y 0).val = b.val * 8 + (y 0).val := by
  refine (Pipeline.Window.rect_emb_val ((cfgM m hO).win 36) (pt m hO b s) y (0 : Fin 2)).trans ?_
  show (BitVec.ofNat 32 (grid0.coords (pt m hO b s) 0).val).toNat * 8 + (y 0).val = _
  have h0 := pt0 m hO b s
  rw [word _ (by omega), h0]

theorem place1 (hO : Ok m) (b : Fin 32) (s : Fin 4) (y : S8x512.Idx) :
    (at36 m hO b s y 1).val = (y 1).val := by
  refine (Pipeline.Window.rect_emb_val ((cfgM m hO).win 36) (pt m hO b s) y (1 : Fin 2)).trans ?_
  show 0 * 512 + (y 1).val = _
  omega

theorem stores_at (hO : Ok m) (t : Fin (cfgM m hO).N) (h : t.val % 4 = 3) : ∃ b : Fin 32, t = pt m hO b 3 := by
  have hN : t.val < 128 := lt_of_lt_of_eq t.isLt N_0
  exact ⟨⟨t.val / 4, by omega⟩, Fin.ext (by show t.val = t.val / 4 * 4 + 3; omega)⟩

theorem stored_at (hO : Ok m) (c : Dev nD) (b : Fin 32) (y : S8x512.Idx) (hp : ∀ x, (tbl m 0 x : BitVec 32).toNat < 5120) :
    ((dats m hO 0 c).after 36 (pt m hO b 3) : FVec Ideal S8x512 .f32) y
      = G (a0 m c) (a1 m c) (a2 m c) (a3 m c) (a4 m c) (a5 m c) (at36 m hO b 3 y) := by
  have h0 := place0 m hO b 3 y
  have h1 := place1 m hO b 3 y
  have hy0 : (y 0).val < 8 := (y 0).isLt
  have e : (dats m hO 0 c).after 36 (pt m hO b 3) = (outsAt0 m hO c (pt m hO b 3).val (pt m hO b 3).isLt).1 := after0_36 m hO c (pt m hO b 3)
  refine (congrFun e y).trans ?_
  refine (congrArg (outsAt0 m hO c (pt m hO b 3).val (pt m hO b 3).isLt).1 (eq_ix2 y)).trans ?_
  refine (out_pt m hO c b (y 0) (y 1) hp).trans ?_
  unfold G
  congr 1
  · exact Fin.ext (by dsimp only; omega)
  · exact Fin.ext (by dsimp only; omega)
  · exact Fin.ext h1.symm

theorem mem_of_eq {α : Type} {s : Finset α} {a b : α} (e : a = b) (h : a ∈ s) : b ∈ s := e ▸ h

/-- Every entry of the result lies in a block that some point stores. -/
theorem covered (hO : Ok m) (i : S256x512.Idx) :
    ∃ t : Fin (cfgM m hO).N, ((cfgM m hO).win 36).flush t = true ∧ i ∈ (((cfgM m hO).win 36).blk t).view.set := by
  have hi0 : (i 0).val < 256 := (i 0).isLt
  have hi1 : (i 1).val < 512 := (i 1).isLt
  refine ⟨pt m hO ⟨(i 0).val / 8, by omega⟩ 3, (flush0_36 (adm m hO) _).mpr (by show ((i 0).val / 8 * 4 + 3) % 4 = 3; omega), ?_⟩
  have e : at36 m hO ⟨(i 0).val / 8, by omega⟩ 3 (ix2 (⟨(i 0).val % 8, by omega⟩ : Fin 8) (⟨(i 1).val, hi1⟩ : Fin 512)) = i := by
    funext a
    refine Fin.ext ?_
    match a with
    | ⟨0, _⟩ =>
      refine (place0 m hO ⟨(i 0).val / 8, by omega⟩ 3 (ix2 ⟨(i 0).val % 8, by omega⟩ ⟨(i 1).val, hi1⟩)).trans ?_
      show (i 0).val / 8 * 8 + (i 0).val % 8 = (i 0).val
      omega
    | ⟨1, _⟩ => exact place1 m hO ⟨(i 0).val / 8, by omega⟩ 3 (ix2 ⟨(i 0).val % 8, by omega⟩ ⟨(i 1).val, hi1⟩)
  exact mem_of_eq e (View.emb_mem_set _ _)

/-- The result array after the run. -/
theorem final (hO : Ok m) (c : Dev nD) (hp : ∀ x, (tbl m 0 x : BitVec 32).toNat < 5120) :
    (dats m hO 0 c).arrAt 36 (cfgM m hO).N = G (a0 m c) (a1 m c) (a2 m c) (a3 m c) (a4 m c) (a5 m c) := by
  refine (dats m hO 0 c).arrAt_eq_of_emb 36 _ (fun t hf y => ?_) (covered m hO)
  obtain ⟨b, rfl⟩ := stores_at m hO t ((flush0_36 (adm m hO) t).mp hf)
  exact stored_at m hO c b y hp

variable (ρ : Dev nD → PrngReg)

/-- A run ends with the result array of `entry` and the arguments as they began. -/
theorem run_values (hO : Ok m) (hp : ∀ x, (tbl m 0 x : BitVec 32).toNat < 5120) :
    θ_run defs (onTc (τ := τ) (main (F := Ideal))) ⟨m, fun _ => 0, ρ⟩ (fun r => ∀ c : Dev nD,
      r.2.mem ((c.tc : Thread nD τ).loc main_v2) = G (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 36).trans (final m hO c hp), h.2 c⟩)
    (θ_run_and (run_main m ρ hO) (unchanged m ρ hO))

end Cert.PageValues

end
-- ==== Proof.Values.PageReference.lean ====
/- The reference's result is the array of `entry`, when every word of the table is a page of the cache and the weights' sums
   are greater than 0: it divides each weight, where `entry` divides the sum of the products. -/
module

public import proofs.«01_k».proof.Proof.Gen.ReferenceIdeal.Read
public import proofs.«01_k».proof.Proof.Values.PageRow
public import proofs.«01_k».proof.Proof.Values.MemoryRow
public import Idealize.ShloMosaic.Lib.WordCmp

@[expose] public section

set_option maxRecDepth 16384

noncomputable section

namespace Cert.PageValues

open Idealize.ShloMosaic Idealize.ShloMosaic.TcCoe
open Cert.ReferenceIdeal Cert.ReferenceIdeal.Read Cert.ReferenceIdeal.Gen

variable (x0 : IVec S32x128 32) (x1 : FVec Ideal S32x128x64x128 .bf16) (x2 : FVec Ideal S32x64x128 .bf16)
  (x3 : FVec Ideal S32x64x128 .f32) (x4 : FVec Ideal S256x512 .f32) (x5 : FVec Ideal S2x5120x128x8x64 .f32)

/-- The gather read at an index: the page at the start index, read signed and kept inside the cache. -/
theorem gather_apply (x : FVec Ideal S5120x128x8x64 .f32) (idx : IVec S32x128x1 32) (b : Fin 32) (g : Fin 128) (l : Fin 128) (h : Fin 8) (d : Fin 64) :
    Host.gather gather_S5120x128x8x64_S32x128x1_S32x128x128x8x64_234_0_n_n_0_2_1128864 x idx (ix5 b g l h d)
      = x (ix4 ⟨min (idx (ix3 b g 0)).toInt.toNat 5119, by omega⟩ l h d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    have hsi : GatherDims.siIdx gather_S5120x128x8x64_S32x128x1_S32x128x128x8x64_234_0_n_n_0_2_1128864 (ix5 b g l h d)
        ⟨List.idxOf (0 : Fin 4) [(0 : Fin 4)], List.idxOf_lt_length_iff.2 (List.mem_singleton.mpr rfl)⟩ = ix3 b g 0 := by
      funext b; refine Fin.ext ?_
      match b with
      | ⟨0, _⟩ => rfl
      | ⟨1, _⟩ => rfl
      | ⟨2, _⟩ => rfl
    exact (dif_pos (List.mem_singleton.mpr rfl)).trans (congrArg (fun j => min (idx j).toInt.toNat 5119) hsi)
  | ⟨1, _⟩ => exact Nat.zero_add _
  | ⟨2, _⟩ => exact Nat.zero_add _
  | ⟨3, _⟩ => exact Nat.zero_add _

theorem slt_zero (v : BitVec 32) (hv : v.toNat < 5120) : IntOp.cmpi .slt v 0#32 = 0#1 := by
  rw [WordCmp.cmpi_slt_eq]
  have e : ¬ v.toInt < (0#32 : BitVec 32).toInt := by
    rw [BitVec.toInt_eq_toNat_cond]
    have e0 : (0#32 : BitVec 32).toInt = 0 := by decide
    rw [e0]
    split <;> omega
  rw [decide_eq_false e]; rfl

theorem toInt_page (v : BitVec 32) (hv : v.toNat < 5120) : v.toInt.toNat = v.toNat := by
  rw [BitVec.toInt_eq_toNat_cond]
  split <;> omega

theorem ref_word (hp : ∀ x, (x0 x).toNat < 5120) (b : Fin 32) (g : Fin 128) :
    val_main_v7 (F := Ideal) x0 (ix3 b g 0) = x0 (ix2 b g) := by
  pointwise [val_main_v7, val_main_v6, val_main_v3, val_main_v2, val_main_c]
  rw [slt_zero _ (hp _)]
  rfl

theorem ref_page (hp : ∀ x, (x0 x).toNat < 5120) (b : Fin 32) (k : Fin 16384) (h : Fin 8) (d : Fin 64) :
    val_main_v9 (F := Ideal) x0 x5 (ix4 b k h d)
      = x5 (ix5 0 (pageOf x0 b ⟨k.val / 128, by omega⟩) ⟨k.val % 128, by omega⟩ h d) := by
  have e : val_main_v9 (F := Ideal) x0 x5 (ix4 b k h d)
      = val_main_v8 (F := Ideal) x0 x5 (ix5 b ⟨k.val / 128, by omega⟩ ⟨k.val % 128, by omega⟩ h d) := by
    pointwise [val_main_v9]
  rw [e]
  unfold val_main_v8
  rw [gather_apply]
  have e1 : (⟨min (val_main_v7 (F := Ideal) x0 (ix3 b ⟨k.val / 128, by omega⟩ 0) : BitVec 32).toInt.toNat 5119, by omega⟩ : Fin 5120)
      = pageOf x0 b ⟨k.val / 128, by omega⟩ :=
    Fin.ext (by unfold pageOf; dsimp only; rw [ref_word x0 hp, toInt_page _ (hp _)])
  rw [e1]
  pointwise [val_main_v1, val_main_v0]

theorem ref_values_cached (hp : ∀ x, (x0 x).toNat < 5120) (b : Fin 32) (k : Fin 16384) (h : Fin 8) (d : Fin 64) :
    val_main_v11 (F := Ideal) x0 x4 x5 (ix4 b ⟨k.val, by omega⟩ h d)
      = x5 (ix5 0 (pageOf x0 b ⟨k.val / 128, by omega⟩) ⟨k.val % 128, by omega⟩ h d) := by
  refine Eq.trans ?_ (ref_page x0 x5 hp b k h d)
  unfold val_main_v11
  generalize val_main_v9 (F := Ideal) x0 x5 = y
  pointwise

theorem ref_values_new (b : Fin 32) (k : Fin 8) (h : Fin 8) (d : Fin 64) :
    val_main_v11 (F := Ideal) x0 x4 x5 (ix4 b ⟨16384 + k.val, by omega⟩ h d)
      = x4 (ix2 ⟨b.val * 8 + k.val, by omega⟩ ⟨h.val * 64 + d.val, by omega⟩) := by
  unfold val_main_v11
  generalize val_main_v9 (F := Ideal) x0 x5 = y
  pointwise [val_main_v10]

theorem ref_weights_cached (b : Fin 32) (h s : Fin 8) (k : Fin 16384) :
    val_main_v18 (F := Ideal) x1 x2 (ix4 b h s ⟨k.val, by omega⟩)
      = x1 (ix4 b ⟨k.val / 128, by omega⟩ ⟨h.val * 8 + s.val, by omega⟩ ⟨k.val % 128, by omega⟩) := by
  pointwise [val_main_v18, val_main_v14, val_main_v13, val_main_v12]

theorem ref_weights_new (b : Fin 32) (h s : Fin 8) (k : Fin 8) :
    val_main_v18 (F := Ideal) x1 x2 (ix4 b h s ⟨16384 + k.val, by omega⟩)
      = x2 (ix3 b ⟨h.val * 8 + s.val, by omega⟩ ⟨k.val, by omega⟩) := by
  pointwise [val_main_v18, val_main_v17, val_main_v16, val_main_v15]

theorem ref_products (hp : ∀ x, (x0 x).toNat < 5120) (b : Fin 32) (s : Fin 8) (n : Fin 512) :
    ∑ k : Fin 16392, val_main_v11 (F := Ideal) x0 x4 x5 (ix4 b k ⟨n.val / 64, by omega⟩ ⟨n.val % 64, by omega⟩)
        * val_main_v18 (F := Ideal) x1 x2 (ix4 b ⟨n.val / 64, by omega⟩ s k)
      = (∑ g : Fin 128, overPage x0 x1 x5 b (rowOf s n) n g) + overNew x2 x4 b (rowOf s n) n := by
  refine (Fin.sum_univ_add (fun k : Fin (16384 + 8) => val_main_v11 (F := Ideal) x0 x4 x5 (ix4 b k ⟨n.val / 64, by omega⟩ ⟨n.val % 64, by omega⟩)
    * val_main_v18 (F := Ideal) x1 x2 (ix4 b ⟨n.val / 64, by omega⟩ s k))).trans ?_
  refine congrArg₂ (fun u v : EReal => u + v) ?_ ?_
  · unfold overPage
    symm
    refine Fin.sum_mul_add_congr fun g l hl => ?_
    refine (mul_comm _ _).trans (congrArg₂ (fun u v : EReal => u * v) ?_ ?_)
    · refine Eq.trans ?_ (ref_values_cached x0 x4 x5 hp b ⟨g.val * 128 + l.val, hl⟩ _ _).symm
      exact congrArg₂ (fun (u v : Fin 128) => x5 (ix5 0 (pageOf x0 b u) v ⟨n.val / 64, by omega⟩ ⟨n.val % 64, by omega⟩))
        (Fin.ext (by dsimp only; omega)) (Fin.ext (by dsimp only; omega))
    · refine Eq.trans ?_ (ref_weights_cached x1 x2 b _ s ⟨g.val * 128 + l.val, hl⟩).symm
      exact congrArg₂ (fun (u v : Fin 128) => x1 (ix4 b u (rowOf s n) v))
        (Fin.ext (by dsimp only; omega)) (Fin.ext (by dsimp only; omega))
  · unfold overNew
    refine Finset.sum_congr rfl fun k _ => ?_
    refine (mul_comm _ _).trans (congrArg₂ (fun u v : EReal => u * v) ?_ ?_)
    · exact ref_weights_new x1 x2 b _ s k
    · refine (ref_values_new x0 x4 x5 b k _ _).trans ?_
      exact congrArg (fun u : Fin 512 => x4 (ix2 ⟨b.val * 8 + k.val, by omega⟩ u)) (Fin.ext (by dsimp only; omega))

theorem ref_denominator (b : Fin 32) (h s : Fin 8) (k : Fin 16392) :
    val_main_v23 (F := Ideal) x3 (ix4 b h s k) = x3 (ix3 b ⟨h.val * 8 + s.val, by omega⟩ 0) := by
  pointwise [val_main_v23, val_main_v22, val_main_v21, val_main_v20, val_main_v19]

theorem ref_weight (b : Fin 32) (h s : Fin 8) (k : Fin 16392) : val_main_v24 (F := Ideal) x1 x2 x3 (ix4 b h s k)
    = Ideal.div (val_main_v18 (F := Ideal) x1 x2 (ix4 b h s k)) (x3 (ix3 b ⟨h.val * 8 + s.val, by omega⟩ 0)) := by
  rw [val_main_v24_apply, ref_denominator]
  rfl

/-- A positive number's inverse is a real number that is not negative, also when the number is infinite. -/
theorem inv_real (u : EReal) (h : 0 < u) : ∃ r : ℝ, 0 ≤ r ∧ u⁻¹ = (r : EReal) := by
  induction u using EReal.rec with
  | bot => exact absurd h (by simp)
  | coe u => exact ⟨u⁻¹, inv_nonneg.2 (EReal.coe_pos.1 h).le, (EReal.coe_inv u).symm⟩
  | top => exact ⟨0, le_rfl, EReal.inv_top⟩

/-- Dividing each weight by a positive number divides the weighted sum by it. -/
theorem divide_each {N : ℕ} (v w : Fin N → EReal) (u : EReal) (h : 0 < u) :
    ∑ k, v k * Ideal.div (w k) u = Ideal.div (∑ k, v k * w k) u := by
  obtain ⟨r, hr, e⟩ := inv_real u h
  simp only [Ideal.div, if_neg h.ne', e]
  rw [MemoryValues.sum_mul_real _ _ hr]
  exact Finset.sum_congr rfl fun k _ => (mul_assoc _ _ _).symm

theorem ref_sum (b : Fin 32) (h : Fin 8) (d : Fin 64) (s : Fin 8) : val_main_v25 (F := Ideal) x0 x1 x2 x3 x4 x5 (ix4 b h d s)
    = ∑ k : Fin 16392, val_main_v11 (F := Ideal) x0 x4 x5 (ix4 b k h d) * val_main_v24 (F := Ideal) x1 x2 x3 (ix4 b h s k) := by
  pointwise [val_main_v25]

theorem ref_entry (hp : ∀ x, (x0 x).toNat < 5120) (hs : ∀ b r, (0 : EReal) < x3 (ix3 b r 0)) (r : Fin 256) (n : Fin 512) :
    val_main_v27 (F := Ideal) x0 x1 x2 x3 x4 x5 (ix2 r n)
      = entry x0 x1 x2 x3 x4 x5 ⟨r.val / 8, by omega⟩ ⟨r.val % 8, by omega⟩ n := by
  have e : val_main_v27 (F := Ideal) x0 x1 x2 x3 x4 x5 (ix2 r n) = val_main_v25 (F := Ideal) x0 x1 x2 x3 x4 x5
      (ix4 ⟨r.val / 8, by omega⟩ ⟨n.val / 64, by omega⟩ ⟨n.val % 64, by omega⟩ ⟨r.val % 8, by omega⟩) := by
    pointwise [val_main_v27, val_main_v26]
  rw [e, ref_sum]
  unfold entry
  rw [← ref_products x0 x1 x2 x4 x5 hp]
  refine Eq.trans (Finset.sum_congr rfl fun k _ => ?_) (divide_each _ _ _ (hs _ _))
  rw [ref_weight]

/-- The reference's result. -/
theorem ref_G (hp : ∀ x, (x0 x).toNat < 5120) (hs : ∀ b r, (0 : EReal) < x3 (ix3 b r 0)) :
    val_main_v27 (F := Ideal) x0 x1 x2 x3 x4 x5 = G x0 x1 x2 x3 x4 x5 := by
  funext i; rw [eq_ix2 i]; exact ref_entry x0 x1 x2 x3 x4 x5 hp hs (i 0) (i 1)

end Cert.PageValues

end
-- ==== Proof.Values.PageClaim.lean ====
/- The claims about the page call: both programs and the reference stop with every semaphore back, the reading of the
   kernel over exact numbers is the kernel's own program, and over exact numbers its result is the reference's. -/
module

public import proofs.«01_k».proof.Defs
public import proofs.«01_k».proof.Proof.Gen.Pre_positive_sums
public import proofs.«01_k».proof.Proof.PageFrame.Launch
public import proofs.«01_k».proof.Proof.PageFrameIdeal.Launch
public import proofs.«01_k».proof.Proof.Gen.ReferenceIdeal.Run
public import proofs.«01_k».proof.Proof.Gen.ReferenceIdeal.Read
public import proofs.«01_k».proof.Proof.Values.PageOk
public import proofs.«01_k».proof.Proof.Values.PageKernel
public import proofs.«01_k».proof.Proof.Values.PageReference
public import Idealize.ShloMosaic.Lib.Claim
public import Idealize.ShloMosaic.Lib.Pointwise
public import Idealize.ShloMosaic.Lib.WordCmp

@[expose] public section

set_option maxRecDepth 16384

noncomputable section

namespace Cert.PageValues

open Idealize.ShloMosaic Idealize.ShloMosaic.TcCoe Idealize.SL.Sem

theorem frame_bits : Cert.quiescent_Kernel := fun m ρ h => Cert.Kernel.Gen.frame m ρ (ok_of_pre m h)

theorem frame_ideal : Cert.quiescent_KernelIdeal := fun m ρ h => Cert.KernelIdeal.Gen.frame m ρ (ok_of_pre_ideal m h)

theorem frame_reference : Cert.quiescent_ReferenceIdeal := by
  intro m ρ _
  refine (θ_run _ _ _).mono (fun r h => ⟨fun c => (h c).2, ?_⟩) (Cert.ReferenceIdeal.Value.run m ρ)
  funext s
  exact match s with
    | (_, .reg s) => Fin.elim0 s
    | (_, .dma s) => Fin.elim0 s

theorem both_bits : ∀ u v : BitVec 1, IntOp.andi u v = 1#1 → u = 1#1 ∧ v = 1#1 := by decide

theorem zero_word : Ideal.ofBits .f32 0x00000000#32 = 0 := by
  unfold Ideal.ofBits Ideal.ieee
  simp (decide := true)

/-- What the precondition says at an index: a page of the cache and a positive sum of weights. -/
theorem pre_at (x0 : IVec KernelIdeal.S32x128 32) (x1 : FVec Ideal KernelIdeal.S32x128x64x128 .bf16)
    (x2 : FVec Ideal KernelIdeal.S32x64x128 .bf16) (x3 : FVec Ideal KernelIdeal.S32x64x128 .f32)
    (x4 : FVec Ideal KernelIdeal.S256x512 .f32) (x5 : FVec Ideal KernelIdeal.S2x5120x128x8x64 .f32)
    (h : Cert.Pre_positive_sums.fn (F := Ideal) x0 x1 x2 x3 x4 x5 = fun _ => 1#1) (b : Fin 32) (r : Fin 64) (g : Fin 128) :
    (x0 (ix2 b g)).toNat < 5120 ∧ (0 : EReal) < x3 (ix3 b r 0) := by
  have e : Cert.Pre_positive_sums.fn (F := Ideal) x0 x1 x2 x3 x4 x5 (ix3 b r g)
      = IntOp.andi (IntOp.andi (IntOp.cmpi .sge (x0 (ix2 b g)) 0#32) (IntOp.cmpi .slt (x0 (ix2 b g)) 5120#32))
          (BitVec.ofBool (decide (Ideal.ofBits .f32 0x00000000#32 < x3 (ix3 b r 0)))) := by
    pointwise [Cert.Pre_positive_sums.fn]
  obtain ⟨h1, h2⟩ := both_bits _ _ (e.symm.trans (congrFun h (ix3 b r g)))
  rw [zero_word, WordCmp.ofBool_eq_one_iff, decide_eq_true_eq] at h2
  exact ⟨page_lt _ h1, h2⟩

theorem pages_of_sums (m : (ℓ : Loc Cert.KernelIdeal.nD Cert.KernelIdeal.τ Cert.KernelIdeal.sig) → Buf (Elt Ideal) ℓ)
    (h : Cert.Pre_KernelIdeal_positive_sums m) (x : Cert.KernelIdeal.S32x128.Idx) :
    (Cert.KernelIdeal.Gen.tbl m 0 x : BitVec 32).toNat < 5120 := by
  rw [eq_ix2 x]
  exact (pre_at _ _ _ _ _ _ (h 0) (x 0) 0 (x 1)).1

theorem ok_of_sums (m : (ℓ : Loc Cert.KernelIdeal.nD Cert.KernelIdeal.τ Cert.KernelIdeal.sig) → Buf (Elt Ideal) ℓ)
    (h : Cert.Pre_KernelIdeal_positive_sums m) : Cert.KernelIdeal.Gen.Ok m := ok_of_lt_ideal _ (pages_of_sums m h)

theorem frame_ideal_sums : Cert.quiescent_KernelIdeal_pre_positive_sums :=
  fun m ρ h => Cert.KernelIdeal.Gen.frame m ρ (ok_of_sums m h)

theorem frame_reference_sums : Cert.quiescent_ReferenceIdeal_pre_positive_sums := fun m ρ _ => frame_reference m ρ trivial

theorem kernel_same : Cert.preserves_Kernel_KernelIdeal := trivial

/-- Where the table's entries are pages of the cache and the weights' sums are positive, the call's result is the
    reference's. -/
theorem algebraic : Cert.algebraic_KernelIdeal_ReferenceIdeal_pre_positive_sums := by
  pair_intro
  · run_from run_values m g (ok_of_sums m hpre) (pages_of_sums m hpre)
  · refine θ_run_mono (Cert.ReferenceIdeal.Value.run m' g') ?_
    intro r hr c
    obtain ⟨e0, e1, e2, e3, e4, e5⟩ := hagree c
    refine ⟨(hr c).1.trans ?_, (hr c).2⟩
    rw [Cert.ReferenceIdeal.Read.val_main_v27_eq]
    refine (ref_G _ _ _ _ _ _ ?_ ?_).trans ?_
    · intro x
      rw [e0, eq_ix2 x]
      exact (pre_at _ _ _ _ _ _ (hpre c) (x 0) 0 (x 1)).1
    · intro b r
      rw [e3]
      exact (pre_at _ _ _ _ _ _ (hpre c) b r 0).2
    · rw [e0, e1, e2, e3, e4, e5]

end Cert.PageValues

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_pages_in_cache
public import proofs.«01_k».proof.Proof.Gen.Pre_positive_sums
public import proofs.«01_k».proof.Proof.Gen.Pre_finite_scores
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.ReferenceIdeal.Run
public import proofs.«01_k».proof.Proof.Gen.ReferenceIdeal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import Idealize.ShloMosaic.Adequacy
public import Idealize.ShloMosaic.Init
public import proofs.«01_k».proof.Proof.Values.FfnClaim
public import proofs.«01_k».proof.Proof.Values.MemoryClaim
public import proofs.«01_k».proof.Proof.Values.MemClaim
public import proofs.«01_k».proof.Proof.Values.MixClaim
public import proofs.«01_k».proof.Proof.Values.InputClaim
public import proofs.«01_k».proof.Proof.Values.PageClaim

@[expose] public section

noncomputable section

namespace Cert.Proof

/-- Everything claimed, call by call. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_pages_in_cache.Gen.facts, Cert.Pre_positive_sums.Gen.facts, Cert.Pre_finite_scores.Gen.facts,
  Cert.PageValues.frame_bits,
  Cert.PageValues.frame_ideal,
  Cert.PageValues.frame_ideal_sums,
  Cert.PageValues.frame_reference,
  Cert.PageValues.frame_reference_sums,
  Cert.FfnValues.frame_bits,
  Cert.FfnValues.frame_ideal,
  Cert.FfnValues.frame_reference,
  Cert.MemoryValues.frame_bits,
  Cert.MemoryValues.frame_ideal,
  Cert.MemoryValues.frame_ideal_finite,
  Cert.MemoryValues.frame_reference,
  Cert.MemoryValues.frame_reference_finite,
  Cert.MemValues.frame_bits,
  Cert.MemValues.frame_ideal,
  Cert.MemValues.frame_reference,
  Cert.MixValues.frame_bits,
  Cert.MixValues.frame_ideal,
  Cert.MixValues.frame_reference,
  Cert.InputValues.frame_bits,
  Cert.InputValues.frame_ideal,
  Cert.InputValues.frame_reference,
  Cert.PageValues.kernel_same,
  Cert.PageValues.algebraic,
  Cert.FfnValues.kernel_same,
  Cert.FfnValues.algebraic,
  Cert.MemoryValues.kernel_same,
  Cert.MemoryValues.algebraic,
  Cert.MemValues.kernel_same,
  Cert.MemValues.algebraic,
  Cert.MixValues.kernel_same,
  Cert.MixValues.algebraic,
  Cert.InputValues.kernel_same,
  Cert.InputValues.algebraic⟩

end Cert.Proof

end
